-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S6x256x28 : Shape := ⟨3, ![6, 256, 28]⟩
abbrev S6x3584 : Shape := ⟨2, ![6, 3584]⟩
abbrev S6x28x256 : Shape := ⟨3, ![6, 28, 256]⟩
abbrev S6x1x3584 : Shape := ⟨3, ![6, 1, 3584]⟩
abbrev S6x3x3584 : Shape := ⟨3, ![6, 3, 3584]⟩
abbrev S6x3x2x1x3584 : Shape := ⟨5, ![6, 3, 2, 1, 3584]⟩
abbrev S1x28x128 : Shape := ⟨3, ![1, 28, 128]⟩
abbrev S1x1x3584 : Shape := ⟨3, ![1, 1, 3584]⟩
abbrev S1x128x3584 : Shape := ⟨3, ![1, 128, 3584]⟩
abbrev S1x3x3584 : Shape := ⟨3, ![1, 3, 3584]⟩
abbrev S1x3x1x1x3584 : Shape := ⟨5, ![1, 3, 1, 1, 3584]⟩
abbrev S128x128 : Shape := ⟨2, ![128, 128]⟩
abbrev S28x128 : Shape := ⟨2, ![28, 128]⟩
abbrev S128x28 : Shape := ⟨2, ![128, 28]⟩
abbrev S3x3584 : Shape := ⟨2, ![3, 3584]⟩
abbrev S32x128 : Shape := ⟨2, ![32, 128]⟩
abbrev S1x32x128 : Shape := ⟨3, ![1, 32, 128]⟩
abbrev S32x1 : Shape := ⟨2, ![32, 1]⟩
abbrev S32 : Shape := ⟨1, ![32]⟩
abbrev S1x1x128 : Shape := ⟨3, ![1, 1, 128]⟩
abbrev S1x128 : Shape := ⟨2, ![1, 128]⟩
abbrev S1x1x1x1x128 : Shape := ⟨5, ![1, 1, 1, 1, 128]⟩
abbrev S128 : Shape := ⟨1, ![128]⟩
abbrev S6x3x2x3584 : Shape := ⟨4, ![6, 3, 2, 3584]⟩
abbrev S6x2x3x3584 : Shape := ⟨4, ![6, 2, 3, 3584]⟩

abbrev nBuf : Space → Nat
  | .hbm => 17
  | .vmem => 25
  | .smem => 0
  | _ => 0

abbrev bufTy : (tb : Table) → Fin (tcTables nBuf tb) → BufTy
  | .hbm, ⟨0, _⟩ => ⟨S6x256x3584, .fp8e4m3⟩
  | .hbm, ⟨1, _⟩ => ⟨S6x256x28, .f32⟩
  | .hbm, ⟨2, _⟩ => ⟨S6x256x3584, .bf16⟩
  | .hbm, ⟨3, _⟩ => ⟨S6x256x3584, .fp8e5m2⟩
  | .hbm, ⟨4, _⟩ => ⟨S6x256x28, .f32⟩
  | .hbm, ⟨5, _⟩ => ⟨S6x256x3584, .fp8e5m2⟩
  | .hbm, ⟨6, _⟩ => ⟨S6x256x28, .f32⟩
  | .hbm, ⟨7, _⟩ => ⟨S6x3584, .f32⟩
  | .hbm, ⟨8, _⟩ => ⟨S6x28x256, .f32⟩
  | .hbm, ⟨9, _⟩ => ⟨S6x28x256, .f32⟩
  | .hbm, ⟨10, _⟩ => ⟨S6x28x256, .f32⟩
  | .hbm, ⟨11, _⟩ => ⟨S6x1x3584, .f32⟩
  | .hbm, ⟨12, _⟩ => ⟨S6x256x3584, .bf16⟩
  | .hbm, ⟨13, _⟩ => ⟨S6x3x3584, .f32⟩
  | .hbm, ⟨14, _⟩ => ⟨S6x3x2x1x3584, .f32⟩
  | .hbm, ⟨15, _⟩ => ⟨S6x3x2x3584, .f32⟩
  | .hbm, ⟨16, _⟩ => ⟨S6x2x3x3584, .f32⟩
  | .local _ .vmem, ⟨0, _⟩ => ⟨S1x28x128, .f32⟩
  | .local _ .vmem, ⟨1, _⟩ => ⟨S1x28x128, .f32⟩
  | .local _ .vmem, ⟨2, _⟩ => ⟨S1x28x128, .f32⟩
  | .local _ .vmem, ⟨3, _⟩ => ⟨S1x28x128, .f32⟩
  | .local _ .vmem, ⟨4, _⟩ => ⟨S1x28x128, .f32⟩
  | .local _ .vmem, ⟨5, _⟩ => ⟨S1x28x128, .f32⟩
  | .local _ .vmem, ⟨6, _⟩ => ⟨S1x1x3584, .f32⟩
  | .local _ .vmem, ⟨7, _⟩ => ⟨S1x1x3584, .f32⟩
  | .local _ .vmem, ⟨8, _⟩ => ⟨S1x128x3584, .fp8e4m3⟩
  | .local _ .vmem, ⟨9, _⟩ => ⟨S1x128x3584, .fp8e4m3⟩
  | .local _ .vmem, ⟨10, _⟩ => ⟨S1x128x3584, .bf16⟩
  | .local _ .vmem, ⟨11, _⟩ => ⟨S1x128x3584, .bf16⟩
  | .local _ .vmem, ⟨12, _⟩ => ⟨S1x128x3584, .fp8e5m2⟩
  | .local _ .vmem, ⟨13, _⟩ => ⟨S1x128x3584, .fp8e5m2⟩
  | .local _ .vmem, ⟨14, _⟩ => ⟨S1x128x3584, .fp8e5m2⟩
  | .local _ .vmem, ⟨15, _⟩ => ⟨S1x128x3584, .fp8e5m2⟩
  | .local _ .vmem, ⟨16, _⟩ => ⟨S1x128x3584, .bf16⟩
  | .local _ .vmem, ⟨17, _⟩ => ⟨S1x128x3584, .bf16⟩
  | .local _ .vmem, ⟨18, _⟩ => ⟨S1x3x3584, .f32⟩
  | .local _ .vmem, ⟨19, _⟩ => ⟨S1x3x3584, .f32⟩
  | .local _ .vmem, ⟨20, _⟩ => ⟨S1x3x1x1x3584, .f32⟩
  | .local _ .vmem, ⟨21, _⟩ => ⟨S1x3x1x1x3584, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 2], ![false, false]⟩

@[reducible] def k0_t1_loop : Scf.Loop 32 :=
  let c0_i32_20 : BitVec 32 := 0#32
  let c4_i32 : BitVec 32 := 4#32
  let v25 : BitVec 32 := Scalar.addi c0_i32_20 c4_i32
  let c1_i32 : BitVec 32 := 1#32
  ⟨c0_i32_20, v25, c1_i32⟩
def k0_mult1 (k0_t1 : Fin k0_t1_loop.trips) : BitVec 32 :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  v34
def k0_off1 (k0_t1 : Fin k0_t1_loop.trips) : Fin 3 → Nat :=
  let c0_34 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v37 : Index := Scalar.indexCast v35
  let c0_35 : Index := 0#32
  ![0, v37.toNat, 0]
def k0_off2 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v41 : Index := Scalar.indexCast v35
  let c0_36 : Index := 0#32
  ![v41.toNat, 0]
def k0_off3 (k0_t1 : Fin k0_t1_loop.trips) : Fin 3 → Nat :=
  let c0_37 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v46 : Index := Scalar.indexCast v35
  let c128 : Index := 128#32
  ![0, v46.toNat, 128]
def k0_off4 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v50 : Index := Scalar.indexCast v35
  let c1 : Index := 1#32
  ![v50.toNat, 1]
def k0_off5 (k0_t1 : Fin k0_t1_loop.trips) : Fin 3 → Nat :=
  let c0_38 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v55 : Index := Scalar.indexCast v35
  let c256 : Index := 256#32
  ![0, v55.toNat, 256]
def k0_off6 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v59 : Index := Scalar.indexCast v35
  let c2 : Index := 2#32
  ![v59.toNat, 2]
def k0_off7 (k0_t1 : Fin k0_t1_loop.trips) : Fin 3 → Nat :=
  let c0_39 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v64 : Index := Scalar.indexCast v35
  let c384 : Index := 384#32
  ![0, v64.toNat, 384]
def k0_off8 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v68 : Index := Scalar.indexCast v35
  let c3 : Index := 3#32
  ![v68.toNat, 3]
def k0_off9 (k0_t1 : Fin k0_t1_loop.trips) : Fin 3 → Nat :=
  let c0_40 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v73 : Index := Scalar.indexCast v35
  let c512 : Index := 512#32
  ![0, v73.toNat, 512]
def k0_off10 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v77 : Index := Scalar.indexCast v35
  let c4 : Index := 4#32
  ![v77.toNat, 4]
def k0_off11 (k0_t1 : Fin k0_t1_loop.trips) : Fin 3 → Nat :=
  let c0_41 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v82 : Index := Scalar.indexCast v35
  let c640 : Index := 640#32
  ![0, v82.toNat, 640]
def k0_off12 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v86 : Index := Scalar.indexCast v35
  let c5 : Index := 5#32
  ![v86.toNat, 5]
def k0_off13 (k0_t1 : Fin k0_t1_loop.trips) : Fin 3 → Nat :=
  let c0_42 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v91 : Index := Scalar.indexCast v35
  let c768 : Index := 768#32
  ![0, v91.toNat, 768]
def k0_off14 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v95 : Index := Scalar.indexCast v35
  let c6 : Index := 6#32
  ![v95.toNat, 6]
def k0_off15 (k0_t1 : Fin k0_t1_loop.trips) : Fin 3 → Nat :=
  let c0_43 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v100 : Index := Scalar.indexCast v35
  let c896 : Index := 896#32
  ![0, v100.toNat, 896]
def k0_off16 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v104 : Index := Scalar.indexCast v35
  let c7 : Index := 7#32
  ![v104.toNat, 7]
def k0_off17 (k0_t1 : Fin k0_t1_loop.trips) : Fin 3 → Nat :=
  let c0_44 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v109 : Index := Scalar.indexCast v35
  let c1024 : Index := 1024#32
  ![0, v109.toNat, 1024]
def k0_off18 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v113 : Index := Scalar.indexCast v35
  let c8 : Index := 8#32
  ![v113.toNat, 8]
def k0_off19 (k0_t1 : Fin k0_t1_loop.trips) : Fin 3 → Nat :=
  let c0_45 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v118 : Index := Scalar.indexCast v35
  let c1152 : Index := 1152#32
  ![0, v118.toNat, 1152]
def k0_off20 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v122 : Index := Scalar.indexCast v35
  let c9 : Index := 9#32
  ![v122.toNat, 9]
def k0_off21 (k0_t1 : Fin k0_t1_loop.trips) : Fin 3 → Nat :=
  let c0_46 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v127 : Index := Scalar.indexCast v35
  let c1280 : Index := 1280#32
  ![0, v127.toNat, 1280]
def k0_off22 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v131 : Index := Scalar.indexCast v35
  let c10 : Index := 10#32
  ![v131.toNat, 10]
def k0_off23 (k0_t1 : Fin k0_t1_loop.trips) : Fin 3 → Nat :=
  let c0_47 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v136 : Index := Scalar.indexCast v35
  let c1408 : Index := 1408#32
  ![0, v136.toNat, 1408]
def k0_off24 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v140 : Index := Scalar.indexCast v35
  let c11 : Index := 11#32
  ![v140.toNat, 11]
def k0_off25 (k0_t1 : Fin k0_t1_loop.trips) : Fin 3 → Nat :=
  let c0_48 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v145 : Index := Scalar.indexCast v35
  let c1536 : Index := 1536#32
  ![0, v145.toNat, 1536]
def k0_off26 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v149 : Index := Scalar.indexCast v35
  let c12 : Index := 12#32
  ![v149.toNat, 12]
def k0_off27 (k0_t1 : Fin k0_t1_loop.trips) : Fin 3 → Nat :=
  let c0_49 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v154 : Index := Scalar.indexCast v35
  let c1664 : Index := 1664#32
  ![0, v154.toNat, 1664]
def k0_off28 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v158 : Index := Scalar.indexCast v35
  let c13 : Index := 13#32
  ![v158.toNat, 13]
def k0_off29 (k0_t1 : Fin k0_t1_loop.trips) : Fin 3 → Nat :=
  let c0_50 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v163 : Index := Scalar.indexCast v35
  let c1792 : Index := 1792#32
  ![0, v163.toNat, 1792]
def k0_off30 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v167 : Index := Scalar.indexCast v35
  let c14 : Index := 14#32
  ![v167.toNat, 14]
def k0_off31 (k0_t1 : Fin k0_t1_loop.trips) : Fin 3 → Nat :=
  let c0_51 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v172 : Index := Scalar.indexCast v35
  let c1920 : Index := 1920#32
  ![0, v172.toNat, 1920]
def k0_off32 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v176 : Index := Scalar.indexCast v35
  let c15 : Index := 15#32
  ![v176.toNat, 15]
def k0_off33 (k0_t1 : Fin k0_t1_loop.trips) : Fin 3 → Nat :=
  let c0_52 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v181 : Index := Scalar.indexCast v35
  let c2048 : Index := 2048#32
  ![0, v181.toNat, 2048]
def k0_off34 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v185 : Index := Scalar.indexCast v35
  let c16 : Index := 16#32
  ![v185.toNat, 16]
def k0_off35 (k0_t1 : Fin k0_t1_loop.trips) : Fin 3 → Nat :=
  let c0_53 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v190 : Index := Scalar.indexCast v35
  let c2176 : Index := 2176#32
  ![0, v190.toNat, 2176]
def k0_off36 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v194 : Index := Scalar.indexCast v35
  let c17 : Index := 17#32
  ![v194.toNat, 17]
def k0_off37 (k0_t1 : Fin k0_t1_loop.trips) : Fin 3 → Nat :=
  let c0_54 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v199 : Index := Scalar.indexCast v35
  let c2304 : Index := 2304#32
  ![0, v199.toNat, 2304]
def k0_off38 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v203 : Index := Scalar.indexCast v35
  let c18 : Index := 18#32
  ![v203.toNat, 18]
def k0_off39 (k0_t1 : Fin k0_t1_loop.trips) : Fin 3 → Nat :=
  let c0_55 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v208 : Index := Scalar.indexCast v35
  let c2432 : Index := 2432#32
  ![0, v208.toNat, 2432]
def k0_off40 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v212 : Index := Scalar.indexCast v35
  let c19 : Index := 19#32
  ![v212.toNat, 19]
def k0_off41 (k0_t1 : Fin k0_t1_loop.trips) : Fin 3 → Nat :=
  let c0_56 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v217 : Index := Scalar.indexCast v35
  let c2560 : Index := 2560#32
  ![0, v217.toNat, 2560]
def k0_off42 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v221 : Index := Scalar.indexCast v35
  let c20 : Index := 20#32
  ![v221.toNat, 20]
def k0_off43 (k0_t1 : Fin k0_t1_loop.trips) : Fin 3 → Nat :=
  let c0_57 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v226 : Index := Scalar.indexCast v35
  let c2688 : Index := 2688#32
  ![0, v226.toNat, 2688]
def k0_off44 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v230 : Index := Scalar.indexCast v35
  let c21 : Index := 21#32
  ![v230.toNat, 21]
def k0_off45 (k0_t1 : Fin k0_t1_loop.trips) : Fin 3 → Nat :=
  let c0_58 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v235 : Index := Scalar.indexCast v35
  let c2816 : Index := 2816#32
  ![0, v235.toNat, 2816]
def k0_off46 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v239 : Index := Scalar.indexCast v35
  let c22 : Index := 22#32
  ![v239.toNat, 22]
def k0_off47 (k0_t1 : Fin k0_t1_loop.trips) : Fin 3 → Nat :=
  let c0_59 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v244 : Index := Scalar.indexCast v35
  let c2944 : Index := 2944#32
  ![0, v244.toNat, 2944]
def k0_off48 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v248 : Index := Scalar.indexCast v35
  let c23 : Index := 23#32
  ![v248.toNat, 23]
def k0_off49 (k0_t1 : Fin k0_t1_loop.trips) : Fin 3 → Nat :=
  let c0_60 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v253 : Index := Scalar.indexCast v35
  let c3072 : Index := 3072#32
  ![0, v253.toNat, 3072]
def k0_off50 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v257 : Index := Scalar.indexCast v35
  let c24 : Index := 24#32
  ![v257.toNat, 24]
def k0_off51 (k0_t1 : Fin k0_t1_loop.trips) : Fin 3 → Nat :=
  let c0_61 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v262 : Index := Scalar.indexCast v35
  let c3200 : Index := 3200#32
  ![0, v262.toNat, 3200]
def k0_off52 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v266 : Index := Scalar.indexCast v35
  let c25 : Index := 25#32
  ![v266.toNat, 25]
def k0_off53 (k0_t1 : Fin k0_t1_loop.trips) : Fin 3 → Nat :=
  let c0_62 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v271 : Index := Scalar.indexCast v35
  let c3328 : Index := 3328#32
  ![0, v271.toNat, 3328]
def k0_off54 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v275 : Index := Scalar.indexCast v35
  let c26 : Index := 26#32
  ![v275.toNat, 26]
def k0_off55 (k0_t1 : Fin k0_t1_loop.trips) : Fin 3 → Nat :=
  let c0_63 : Index := 0#32
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v280 : Index := Scalar.indexCast v35
  let c3456 : Index := 3456#32
  ![0, v280.toNat, 3456]
def k0_off56 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v34 : BitVec 32 := Scalar.muli arg16 c32_i32
  let v35 : BitVec 32 := v34
  let v284 : Index := Scalar.indexCast v35
  let c27 : Index := 27#32
  ![v284.toNat, 27]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x28x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x28x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3584 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x3584 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x3584 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x1x1x3584 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_d" => some ((1 / 3584 : ℝ) : EReal)
  | _ => none
-- ==== ReferenceIdeal.lean ====
abbrev S6x256x3584 : Shape := ⟨3, ![6, 256, 3584]⟩
abbrev S6x256x28 : Shape := ⟨3, ![6, 256, 28]⟩
abbrev S6x3584 : Shape := ⟨2, ![6, 3584]⟩
abbrev S6x3x3584 : Shape := ⟨3, ![6, 3, 3584]⟩
abbrev S6x2x3x3584 : Shape := ⟨4, ![6, 2, 3, 3584]⟩
abbrev S6x256x28x128 : Shape := ⟨4, ![6, 256, 28, 128]⟩
abbrev S6x256x28x1 : Shape := ⟨4, ![6, 256, 28, 1]⟩
abbrev S6x256 : Shape := ⟨2, ![6, 256]⟩
abbrev S6x256x1x1 : Shape := ⟨4, ![6, 256, 1, 1]⟩
abbrev S6x2x128x28x128 : Shape := ⟨5, ![6, 2, 128, 28, 128]⟩
abbrev S6x2x28x128 : Shape := ⟨4, ![6, 2, 28, 128]⟩
abbrev S6x2x3584 : Shape := ⟨3, ![6, 2, 3584]⟩
abbrev S6x2x1x3584 : Shape := ⟨4, ![6, 2, 1, 3584]⟩
abbrev S6x1x28x128 : Shape := ⟨4, ![6, 1, 28, 128]⟩

abbrev nBuf : Space → Nat
  | .hbm => 11
  | .vmem => 11
  | .smem => 0
  | _ => 0

abbrev bufTy : (tb : Table) → Fin (tcTables nBuf tb) → BufTy
  | .hbm, ⟨0, _⟩ => ⟨S6x256x3584, .fp8e4m3⟩
  | .hbm, ⟨1, _⟩ => ⟨S6x256x28, .f32⟩
  | .hbm, ⟨2, _⟩ => ⟨S6x256x3584, .bf16⟩
  | .hbm, ⟨3, _⟩ => ⟨S6x256x3584, .fp8e5m2⟩
  | .hbm, ⟨4, _⟩ => ⟨S6x256x28, .f32⟩
  | .hbm, ⟨5, _⟩ => ⟨S6x256x3584, .fp8e5m2⟩
  | .hbm, ⟨6, _⟩ => ⟨S6x256x28, .f32⟩
  | .hbm, ⟨7, _⟩ => ⟨S6x3584, .f32⟩
  | .hbm, ⟨8, _⟩ => ⟨S6x256x3584, .bf16⟩
  | .hbm, ⟨9, _⟩ => ⟨S6x3x3584, .f32⟩
  | .hbm, ⟨10, _⟩ => ⟨S6x2x3x3584, .f32⟩
  | .local _ .vmem, ⟨0, _⟩ => ⟨S6x256x3584, .fp8e4m3⟩
  | .local _ .vmem, ⟨1, _⟩ => ⟨S6x256x28, .f32⟩
  | .local _ .vmem, ⟨2, _⟩ => ⟨S6x256x3584, .bf16⟩
  | .local _ .vmem, ⟨3, _⟩ => ⟨S6x256x3584, .fp8e5m2⟩
  | .local _ .vmem, ⟨4, _⟩ => ⟨S6x256x28, .f32⟩
  | .local _ .vmem, ⟨5, _⟩ => ⟨S6x256x3584, .fp8e5m2⟩
  | .local _ .vmem, ⟨6, _⟩ => ⟨S6x256x28, .f32⟩
  | .local _ .vmem, ⟨7, _⟩ => ⟨S6x3584, .f32⟩
  | .local _ .vmem, ⟨8, _⟩ => ⟨S6x256x3584, .bf16⟩
  | .local _ .vmem, ⟨9, _⟩ => ⟨S6x3x3584, .f32⟩
  | .local _ .vmem, ⟨10, _⟩ => ⟨S6x2x3x3584, .f32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x3584 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x3584 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x3x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2x3x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Model.lean ====
module

public import proofs.«01_k».proof.Proof.Gen.KernelIdeal.Loops
public import Idealize.ShloMosaic.Lib.Tactic

/-!
  One step of the kernel's loop over 32 rows, as a value: `Step` holds what the step reads, and the
  definitions after it are the kernel's own operations on it, in the kernel's order. `trip_dx` and
  `trip_blk` say that the generated account of a step (`trip_k0_t1`) writes exactly those values.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI

variable {F : FTy → Type} [FloatOps F] [Named F]

/-- The 28 values of a function on the column blocks, the last block first. -/
def down28 {α : Type} (p : Fin 28 → α) : List α :=
  [p 27, p 26, p 25, p 24, p 23, p 22, p 21, p 20, p 19, p 18, p 17, p 16, p 15, p 14, p 13, p 12, p 11, p 10, p 9, p 8,
    p 7, p 6, p 5, p 4, p 3, p 2, p 1, p 0]

/-- The sum over the column blocks, block 0 first, onto zero. -/
def acc28 (g : Fin 28 → FVec F S32x128 .f32) : FVec F S32x128 .f32 :=
  (down28 g).foldr (fun v a => addf a v) (broadcast S32x128 (Scalar.ofBits .f32 0x00000000#32 : F .f32))

/-- The factor 1/3584. -/
def invD : F .f32 := Named.named κ "inv_d" 0x39924925#32

/-- A row's sum over the 128 lanes, times 1/3584. -/
def rowMean (a : FVec F S32x128 .f32) : FVec F S32x1 .f32 :=
  mulf (shapeCast S32x1 (multiReduction .add [1] S32 a 0x00000000#32 reduces_S32x128_S32 (.inl rfl) rfl) shapeCasts_S32_S32x1)
    (broadcast S32x1 invD)

/-- A column's sum over the 32 rows. -/
def colSum (a : FVec F S32x128 .f32) : FVec F S1x128 .f32 :=
  shapeCast S1x128 (multiReduction .add [0] S128 a 0x00000000#32 reduces_S32x128_S128 (.inl rfl) rfl) shapeCasts_S128_S1x128

/-- A column of 32 numbers, one per row, repeated along the lanes. -/
def lanes (s : FVec F S32x1 .f32) : FVec F S32x128 .f32 := broadcastTo S32x128 s broadcasts_S32x1_S32x128

/-- Codes of the first kind times their scales. -/
def deq4 (c : Vec F S1x32x128 .fp8e4m3) (s : Vec F S32x1 .f32) : FVec F S32x128 .f32 :=
  mulf (extf .f32 (shapeCast S32x128 c shapeCasts_S1x32x128_S32x128) bitsLt_fp8e4m3_f32) (lanes s)

/-- Codes of the second kind times their scales. -/
def deq5 (c : Vec F S1x32x128 .fp8e5m2) (s : Vec F S32x1 .f32) : FVec F S32x128 .f32 :=
  mulf (extf .f32 (shapeCast S32x128 c shapeCasts_S1x32x128_S32x128) bitsLt_fp8e5m2_f32) (lanes s)

variable (F) in
/-- What one step of 32 rows reads, per column block: the modulation, the codes, `f`, the scales. -/
structure Step where
  m : Fin 28 → Vec F S1x1x128 .f32
  x : Fin 28 → Vec F S1x32x128 .fp8e4m3
  f : Fin 28 → Vec F S1x32x128 .bf16
  dy : Fin 28 → Vec F S1x32x128 .fp8e5m2
  dh : Fin 28 → Vec F S1x32x128 .fp8e5m2
  sx : Fin 28 → Vec F S32x1 .f32
  sdy : Fin 28 → Vec F S32x1 .f32
  sdh : Fin 28 → Vec F S32x1 .f32

namespace Step

variable (T : Step F)

def xv (b : Fin 28) : FVec F S32x128 .f32 := deq4 (T.x b) (T.sx b)
def dyv (b : Fin 28) : FVec F S32x128 .f32 := deq5 (T.dy b) (T.sdy b)
def dhv (b : Fin 28) : FVec F S32x128 .f32 := deq5 (T.dh b) (T.sdh b)

/-- The rows' means. -/
def mu : FVec F S32x1 .f32 := rowMean (acc28 T.xv)

/-- One over the rows' standard deviations, given their means. -/
def rstd (mu : FVec F S32x1 .f32) : FVec F S32x1 .f32 :=
  rsqrt (addf (rowMean (acc28 fun b => mulf (subf (T.xv b) (lanes mu)) (subf (T.xv b) (lanes mu))))
    (broadcast S32x1 (Scalar.ofBits .f32 0x358637BD#32 : F .f32)))

/-- The normalized rows, given means and reciprocal deviations. -/
def xhat (mu rstd : FVec F S32x1 .f32) (b : Fin 28) : FVec F S32x128 .f32 :=
  mulf (subf (T.xv b) (lanes mu)) (lanes rstd)

/-- The incoming gradient times one plus the modulation. -/
def g (b : Fin 28) : FVec F S32x128 .f32 :=
  mulf (T.dhv b) (broadcastTo S32x128
    (addf (broadcast S1x128 (Scalar.ofBits .f32 0x3F800000#32 : F .f32)) (shapeCast S1x128 (T.m b) shapeCasts_S1x1x128_S1x128))
    broadcasts_S1x128_S32x128)

def gMean : FVec F S32x1 .f32 := rowMean (acc28 T.g)

def gxMean (mu rstd : FVec F S32x1 .f32) : FVec F S32x1 .f32 := rowMean (acc28 fun b => mulf (T.g b) (T.xhat mu rstd b))

/-- The step's rows of the first result in block `b`. -/
def dx (mu rstd gm gxm : FVec F S32x1 .f32) (b : Fin 28) : FVec F S1x32x128 .bf16 :=
  shapeCast S1x32x128 (truncf .bf16
    (addf (T.dyv b) (mulf (lanes rstd) (subf (subf (T.g b) (lanes gm)) (mulf (T.xhat mu rstd b) (lanes gxm)))))
    bitsLt_bf16_f32) shapeCasts_S32x128_S1x32x128

/-- What the step adds to the three rows of the block sums in block `b`. -/
def part (mu rstd : FVec F S32x1 .f32) (a : Fin 3) (b : Fin 28) : FVec F S1x128 .f32 :=
  match a with
  | 0 => colSum (T.dhv b)
  | 1 => colSum (mulf (T.dhv b) (T.xhat mu rstd b))
  | 2 => colSum (mulf (T.dyv b) (extf .f32 (shapeCast S32x128 (T.f b) shapeCasts_S1x32x128_S32x128) bitsLt_bf16_f32))

end Step

/-- A block sum's new contents: the old ones plus `s`. -/
def blkAdd (old : Vec F S1x1x1x1x128 .f32) (s : FVec F S1x128 .f32) : FVec F S1x1x1x1x128 .f32 :=
  shapeCast S1x1x1x1x128 (addf (shapeCast S1x128 old shapeCasts_S1x1x1x1x128_S1x128) s) shapeCasts_S1x128_S1x1x1x1x128

/-- The first row of step `k`. -/
def rowOff (k : Fin k0_t1_loop.trips) : ℕ := (Scalar.indexCast (Scalar.muli (Scf.iv 0#32 1#32 k) 32#32)).toNat

theorem rowOff_le (k : Fin k0_t1_loop.trips) : rowOff k + 32 ≤ 128 := k0_off1_inb k 1

abbrev offC (k : Fin k0_t1_loop.trips) (b : Fin 28) : Fin 3 → ℕ := ![0, rowOff k, 128 * b.val]
abbrev offS (k : Fin k0_t1_loop.trips) (b : Fin 28) : Fin 2 → ℕ := ![rowOff k, b.val]
abbrev offM (b : Fin 28) : Fin 3 → ℕ := ![0, 0, 128 * b.val]
abbrev offB (a : Fin 3) (b : Fin 28) : Fin 5 → ℕ := ![0, a.val, 0, 0, 128 * b.val]

theorem inbC (k : Fin k0_t1_loop.trips) (b : Fin 28) : ∀ a, offC k b a + S1x32x128.size a ≤ S1x128x3584.size a := by
  have := rowOff_le k; have := b.isLt
  intro a; fin_cases a
  · show 0 + 1 ≤ 1; omega
  · exact rowOff_le k
  · show 128 * b.val + 128 ≤ 3584; omega
theorem inbS (k : Fin k0_t1_loop.trips) (b : Fin 28) : ∀ a, offS k b a + S32x1.size a ≤ S128x128.size a := by
  have := rowOff_le k; have := b.isLt
  intro a; fin_cases a
  · exact rowOff_le k
  · show b.val + 1 ≤ 128; omega
theorem inbM (b : Fin 28) : ∀ a, offM b a + S1x1x128.size a ≤ S1x1x3584.size a := by
  have := b.isLt
  intro a; fin_cases a
  · show 0 + 1 ≤ 1; omega
  · show 0 + 1 ≤ 1; omega
  · show 128 * b.val + 128 ≤ 3584; omega
theorem inbB (a : Fin 3) (b : Fin 28) : ∀ d, offB a b d + S1x1x1x1x128.size d ≤ S1x3x1x1x3584.size d := by
  have := b.isLt; have := a.isLt
  intro d; fin_cases d
  · show 0 + 1 ≤ 1; omega
  · show a.val + 1 ≤ 3; omega
  · show 0 + 1 ≤ 1; omega
  · show 0 + 1 ≤ 1; omega
  · show 128 * b.val + 128 ≤ 3584; omega

/-- The rectangle of step `k` and block `b` in a block of 128 tokens. -/
abbrev rectC (k : Fin k0_t1_loop.trips) (b : Fin 28) : Rect S1x128x3584 := Rect.unit (offC k b) S1x32x128.size (inbC k b)
abbrev rectS (k : Fin k0_t1_loop.trips) (b : Fin 28) : Rect S128x128 := Rect.unit (offS k b) S32x1.size (inbS k b)
abbrev rectM (b : Fin 28) : Rect S1x1x3584 := Rect.unit (offM b) S1x1x128.size (inbM b)
abbrev rectB (a : Fin 3) (b : Fin 28) : Rect S1x3x1x1x3584 := Rect.unit (offB a b) S1x1x1x1x128.size (inbB a b)

section Trip

variable (𝒱 : Variants) (c : Dev nD) (bd : Option 𝒱.V) (i : grid0.Coords) (arg2 : Memref sig .tc .vmem S1x28x128 .f32) (harg2 : arg2.IsWhole) (arg3 : Memref sig .tc .vmem S1x28x128 .f32) (harg3 : arg3.IsWhole) (arg4 : Memref sig .tc .vmem S1x28x128 .f32) (harg4 : arg4.IsWhole) (arg5 : Memref sig .tc .vmem S1x1x3584 .f32) (harg5 : arg5.IsWhole) (arg6 : Memref sig .tc .vmem S1x128x3584 .fp8e4m3) (harg6 : arg6.IsWhole) (arg7 : Memref sig .tc .vmem S1x128x3584 .bf16) (harg7 : arg7.IsWhole) (arg8 : Memref sig .tc .vmem S1x128x3584 .fp8e5m2) (harg8 : arg8.IsWhole) (arg9 : Memref sig .tc .vmem S1x128x3584 .fp8e5m2) (harg9 : arg9.IsWhole) (arg10 : Memref sig .tc .vmem S1x128x3584 .bf16) (harg10 : arg10.IsWhole) (arg11 : Memref sig .tc .vmem S1x3x3584 .f32) (harg11 : arg11.IsWhole) (arg12 : Memref sig .tc .vmem S1x3x1x1x3584 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (X_arg15 : BufTy.Contents (Elt F) arg15.view.ty) (k : Fin k0_t1_loop.trips)
  (f10 : BufTy.Contents (Elt F) arg10.view.ty) (f12 : BufTy.Contents (Elt F) arg12.view.ty)

/-- What step `k` reads, from the memrefs' contents. -/
def stepOf : Step F where
  m b := View.readAt (Elt F) arg5.view (rectM b).toLoadRect X_arg5
  x b := View.readAt (Elt F) arg6.view (rectC k b).toLoadRect X_arg6
  f b := View.readAt (Elt F) arg7.view (rectC k b).toLoadRect X_arg7
  dy b := View.readAt (Elt F) arg8.view (rectC k b).toLoadRect X_arg8
  dh b := View.readAt (Elt F) arg9.view (rectC k b).toLoadRect X_arg9
  sx b := View.readAt (Elt F) arg13.view (rectS k b).toLoadRect X_arg13
  sdy b := View.readAt (Elt F) arg14.view (rectS k b).toLoadRect X_arg14
  sdh b := View.readAt (Elt F) arg15.view (rectS k b).toLoadRect X_arg15

theorem sl_mu : (trip_k0_t1.sl.r (F := F) arg6 arg13 X_arg6 X_arg13 k) = Step.mu (stepOf arg5 arg6 arg7 arg8 arg9 arg13 arg14 arg15 X_arg5 X_arg6 X_arg7 X_arg8 X_arg9 X_arg13 X_arg14 X_arg15 k) := by sl_kernel_rfl

theorem sl_rstd : (trip_k0_t1.sl.r_3 (F := F) arg6 arg13 X_arg6 X_arg13 k) = Step.rstd (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) := by sl_kernel_rfl

theorem sl_gMean : (trip_k0_t1.sl.r_5 (F := F) arg5 arg9 arg15 X_arg5 X_arg9 X_arg15 k) = Step.gMean (stepOf arg5 arg6 arg7 arg8 arg9 arg13 arg14 arg15 X_arg5 X_arg6 X_arg7 X_arg8 X_arg9 X_arg13 X_arg14 X_arg15 k) := by sl_kernel_rfl

theorem sl_gxMean : (trip_k0_t1.sl.r_6 (F := F) arg5 arg6 arg9 arg13 arg15 X_arg5 X_arg6 X_arg9 X_arg13 X_arg15 k) = Step.gxMean (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) (trip_k0_t1.sl.r_3 (F := F) arg6 arg13 X_arg6 X_arg13 k) := by sl_kernel_rfl

theorem sl_dx :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).1 f10 f12
      = down28 fun b => (⟨rectC k b, Step.dx (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) (trip_k0_t1.sl.r_3 (F := F) arg6 arg13 X_arg6 X_arg13 k) (trip_k0_t1.sl.r_5 (F := F) arg5 arg9 arg15 X_arg5 X_arg9 X_arg15 k) (trip_k0_t1.sl.r_6 (F := F) arg5 arg6 arg9 arg13 arg15 X_arg5 X_arg6 X_arg9 X_arg13 X_arg15 k) b⟩ : View.Piece (Elt F) S1x128x3584 .bf16) := by
  sl_kernel_rfl

theorem sl_blk :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).2.1 f10 f12
      = (down28 fun b => (⟨rectB 2 b, blkAdd (View.readAt (Elt F) arg12.view (rectB 2 b).toLoadRect f12) (Step.part (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) (trip_k0_t1.sl.r_3 (F := F) arg6 arg13 X_arg6 X_arg13 k) 2 b)⟩ : View.Piece (Elt F) S1x3x1x1x3584 .f32))
        ++ (down28 fun b => [(⟨rectB 1 b, blkAdd (View.readAt (Elt F) arg12.view (rectB 1 b).toLoadRect f12) (Step.part (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) (trip_k0_t1.sl.r_3 (F := F) arg6 arg13 X_arg6 X_arg13 k) 1 b)⟩ : View.Piece (Elt F) S1x3x1x1x3584 .f32),
            ⟨rectB 0 b, blkAdd (View.readAt (Elt F) arg12.view (rectB 0 b).toLoadRect f12) (Step.part (stepOf arg5 arg6 arg7 arg8 arg9 arg13 arg14 arg15 X_arg5 X_arg6 X_arg7 X_arg8 X_arg9 X_arg13 X_arg14 X_arg15 k) (trip_k0_t1.sl.r (F := F) arg6 arg13 X_arg6 X_arg13 k) (trip_k0_t1.sl.r_3 (F := F) arg6 arg13 X_arg6 X_arg13 k) 0 b)⟩]).flatten := by
  sl_kernel_rfl

end Trip

end Cert.Proof.KI

end
-- ==== Proof.Loop.lean ====
module

public import proofs.«01_k».proof.Proof.Model
public import Idealize.ShloMosaic.Lib.VecWindow

/-!
  The kernel's loop of four steps, as a value: the first result's block is `dxM` of the four steps, and
  the block sums go through `blkN`, one `blkStep` per step.
-/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI

variable {F : FTy → Type} [FloatOps F] [Named F]

theorem mem_down28 {α : Type} (p : Fin 28 → α) (b : Fin 28) : p b ∈ down28 p := by
  unfold down28; fin_cases b <;> simp

theorem of_mem_down28 {α : Type} {p : Fin 28 → α} {a : α} (h : a ∈ down28 p) : ∃ b, a = p b := by
  simp only [down28, List.mem_cons, List.not_mem_nil, or_false] at h
  rcases h with h | h | h | h | h | h | h | h | h | h | h | h | h | h | h | h | h | h | h | h | h | h | h | h | h | h | h | h <;>
    exact ⟨_, h⟩

/-- Pieces that all agree with `T` leave, where one of them lies or where the buffer held `T` before, `T`. -/
theorem read_agree {sg : RefSig} {κ' : Kind} {sp : Space} {s : Shape} {e : EltTy} {Val : EltTy → Type}
    (v : View sg κ' sp s e) (f : v.ty.Contents Val) (T : s.Idx → Val e) :
    ∀ L : List (View.Piece Val s e), (∀ p ∈ L, ∀ x, p.2 x = T (p.1.emb x)) →
      ∀ y, ((∃ p ∈ L, y ∈ p.1.set) ∨ v.read Val f y = T y) → v.read Val (v.writes Val f L) y = T y
  | [], _, y, h => by
    rcases h with ⟨p, hp, _⟩ | h
    · exact absurd hp List.not_mem_nil
    · exact h
  | p :: L, hL, y, h => by
    by_cases hy : y ∈ p.1.set
    · obtain ⟨x, rfl⟩ : ∃ x, p.1.emb x = y := p.1.exists_idx_of_mem hy
      rw [View.read_writes_cons_emb]; exact hL p List.mem_cons_self x
    · rw [View.writes_cons, View.read_slice_write_of_not_mem p.1 _ _ _ (by rwa [Rect.map_emb_univ])]
      refine read_agree v f T L (fun q hq => hL q (List.mem_cons_of_mem _ hq)) y ?_
      rcases h with ⟨q, hq, hqy⟩ | h
      · rcases List.mem_cons.mp hq with rfl | hq
        · exact absurd hqy hy
        · exact Or.inl ⟨q, hq, hqy⟩
      · exact Or.inr h

theorem trips_eq : k0_t1_loop.trips = 4 := by decide +kernel

theorem rowOff_eq : ∀ k : Fin k0_t1_loop.trips, rowOff k = 32 * k.val := by decide +kernel

/-! ## The values -/

namespace Step

variable (T : Step F)

/-- A step's means, reciprocal deviations, rows of the first result and parts of the block sums. -/
def rs : FVec F S32x1 .f32 := T.rstd T.mu
def dxF (b : Fin 28) : FVec F S1x32x128 .bf16 := T.dx T.mu T.rs T.gMean (T.gxMean T.mu T.rs) b
def partF (a : Fin 3) (b : Fin 28) : FVec F S1x128 .f32 := T.part T.mu T.rs a b

end Step

/-- The column block of a channel. -/
def colB (n : ℕ) (h : n < 3584) : Fin 28 := ⟨n / 128, by omega⟩

/-- The step of a row. -/
def rowK (n : ℕ) (h : n < 128) : Fin k0_t1_loop.trips := ⟨n / 32, by rw [trips_eq]; omega⟩

/-- The place of an index inside its piece. -/
def locC (y : S1x128x3584.Idx) : S1x32x128.Idx := fun a => match a with
  | ⟨0, _⟩ => (⟨0, by decide⟩ : Fin 1)
  | ⟨1, _⟩ => (⟨(y 1).val % 32, Nat.mod_lt _ (by decide)⟩ : Fin 32)
  | ⟨2, _⟩ => (⟨(y 2).val % 128, Nat.mod_lt _ (by decide)⟩ : Fin 128)
def locB (y : S1x3x1x1x3584.Idx) : S1x1x1x1x128.Idx := fun a => match a with
  | ⟨0, _⟩ => (⟨0, by decide⟩ : Fin 1)
  | ⟨1, _⟩ => (⟨0, by decide⟩ : Fin 1)
  | ⟨2, _⟩ => (⟨0, by decide⟩ : Fin 1)
  | ⟨3, _⟩ => (⟨0, by decide⟩ : Fin 1)
  | ⟨4, _⟩ => (⟨(y 4).val % 128, Nat.mod_lt _ (by decide)⟩ : Fin 128)

/-- The first result's block. -/
def dxM (S : Fin k0_t1_loop.trips → Step F) : Vec F S1x128x3584 .bf16 := fun y =>
  (S (rowK (y 1).val (y 1).isLt)).dxF (colB (y 2).val (y 2).isLt)
    (locC y)

/-- Lane block `b` of the `a`-th kind of block sum, after one step. -/
def blkAt (T : Step F) (old : Vec F S1x3x1x1x3584 .f32) (a : Fin 3) (b : Fin 28) : Vec F S1x1x1x1x128 .f32 :=
  blkAdd (VecWindow.window old (offB a b) S1x1x1x1x128.size (inbB a b)) (T.partF a b)

/-- One step's effect on the block sums. -/
def blkStep (T : Step F) (old : Vec F S1x3x1x1x3584 .f32) : Vec F S1x3x1x1x3584 .f32 := fun y =>
  blkAt T old (y 1) (colB (y 4).val (y 4).isLt) (locB y)

/-- The block sums after `n` steps. -/
def blkN (S : Fin k0_t1_loop.trips → Step F) : ℕ → Vec F S1x3x1x1x3584 .f32
  | 0 => k0_pay424
  | n + 1 => if h : n < k0_t1_loop.trips then blkStep (S ⟨n, h⟩) (blkN S n) else blkN S n

/-! ## The pieces a step writes agree with those values -/

theorem dx_agree (S : Fin k0_t1_loop.trips → Step F) (k : Fin k0_t1_loop.trips) (b : Fin 28) (x : (rectC k b).shape.Idx) :
    (S k).dxF b x = dxM S ((rectC k b).emb x) := by
  have h0 : (x 0).val < 1 := (x 0).isLt
  have h1 : (x 1).val < 32 := (x 1).isLt
  have h2 : (x 2).val < 128 := (x 2).isLt
  have e1 : ((rectC k b).emb x 1).val = 32 * k.val + (x 1).val := by
    show rowOff k + 1 * (x 1).val = _
    rw [rowOff_eq]; omega
  have e2 : ((rectC k b).emb x 2).val = 128 * b.val + (x 2).val := by
    show 128 * b.val + 1 * (x 2).val = _
    omega
  have ek : rowK ((rectC k b).emb x 1).val ((rectC k b).emb x 1).isLt = k := Fin.ext (by show _ / 32 = _; rw [e1]; omega)
  have eb : colB ((rectC k b).emb x 2).val ((rectC k b).emb x 2).isLt = b := Fin.ext (by show _ / 128 = _; rw [e2]; omega)
  unfold dxM
  rw [ek, eb]
  congr 1
  funext a; fin_cases a
  · exact Fin.ext (by show (x 0).val = 0; omega)
  · exact Fin.ext (by show (x 1).val = ((rectC k b).emb x 1).val % 32; rw [e1]; omega)
  · exact Fin.ext (by show (x 2).val = ((rectC k b).emb x 2).val % 128; rw [e2]; omega)

theorem blk_agree (T : Step F) (old : Vec F S1x3x1x1x3584 .f32) (a : Fin 3) (b : Fin 28) (x : (rectB a b).shape.Idx) :
    blkAt T old a b x = blkStep T old ((rectB a b).emb x) := by
  have h0 : (x 0).val < 1 := (x 0).isLt
  have h1 : (x 1).val < 1 := (x 1).isLt
  have h2 : (x 2).val < 1 := (x 2).isLt
  have h3 : (x 3).val < 1 := (x 3).isLt
  have h4 : (x 4).val < 128 := (x 4).isLt
  have e4 : ((rectB a b).emb x 4).val = 128 * b.val + (x 4).val := by
    show 128 * b.val + 1 * (x 4).val = _
    omega
  have ea : ((rectB a b).emb x 1 : Fin 3) = a := Fin.ext (by show a.val + 1 * (x 1).val = _; omega)
  have eb : colB ((rectB a b).emb x 4).val ((rectB a b).emb x 4).isLt = b := Fin.ext (by show _ / 128 = _; rw [e4]; omega)
  have key : ∀ (a' : Fin 3) (b' : Fin 28) (l : S1x1x1x1x128.Idx), a' = a → b' = b → x = l → blkAt T old a b x = blkAt T old a' b' l := by
    rintro _ _ _ rfl rfl rfl; rfl
  refine key _ _ _ ea eb ?_
  funext d; fin_cases d
  · exact Fin.ext (by show (x 0).val = 0; omega)
  · exact Fin.ext (by show (x 1).val = 0; omega)
  · exact Fin.ext (by show (x 2).val = 0; omega)
  · exact Fin.ext (by show (x 3).val = 0; omega)
  · exact Fin.ext (by show (x 4).val = ((rectB a b).emb x 4).val % 128; rw [e4]; omega)

theorem mem_rectC (k : Fin k0_t1_loop.trips) (y : S1x128x3584.Idx) (h : (y 1).val / 32 = k.val) :
    y ∈ (rectC k (colB (y 2).val (y 2).isLt)).set := by
  have h0 : (y 0).val < 1 := (y 0).isLt
  rw [← Rect.map_emb_univ]
  refine Finset.mem_map.mpr ⟨(locC y), Finset.mem_univ _, ?_⟩
  funext a; fin_cases a
  · exact Fin.ext (by show 0 + 1 * 0 = (y 0).val; omega)
  · exact Fin.ext (by show rowOff k + 1 * ((y 1).val % 32) = (y 1).val; rw [rowOff_eq]; omega)
  · exact Fin.ext (by show 128 * ((y 2).val / 128) + 1 * ((y 2).val % 128) = (y 2).val; omega)

theorem mem_rectB (y : S1x3x1x1x3584.Idx) : y ∈ (rectB (y 1) (colB (y 4).val (y 4).isLt)).set := by
  have h0 : (y 0).val < 1 := (y 0).isLt
  have h2 : (y 2).val < 1 := (y 2).isLt
  have h3 : (y 3).val < 1 := (y 3).isLt
  rw [← Rect.map_emb_univ]
  refine Finset.mem_map.mpr ⟨(locB y), Finset.mem_univ _, ?_⟩
  funext a; fin_cases a
  · exact Fin.ext (by show 0 + 1 * 0 = (y 0).val; omega)
  · exact Fin.ext (by show (y 1).val + 1 * 0 = (y 1).val; omega)
  · exact Fin.ext (by show 0 + 1 * 0 = (y 2).val; omega)
  · exact Fin.ext (by show 0 + 1 * 0 = (y 3).val; omega)
  · exact Fin.ext (by show 128 * ((y 4).val / 128) + 1 * ((y 4).val % 128) = (y 4).val; omega)

/-- Every piece a step writes into the block sums is one of the three kinds. -/
theorem blk_list {α : Type} (f g h : Fin 28 → α) (b : Fin 28) :
    f b ∈ down28 f ++ (down28 fun b => [g b, h b]).flatten ∧ g b ∈ down28 f ++ (down28 fun b => [g b, h b]).flatten
      ∧ h b ∈ down28 f ++ (down28 fun b => [g b, h b]).flatten :=
  ⟨List.mem_append_left _ (mem_down28 f b),
   List.mem_append_right _ (List.mem_flatten.mpr ⟨_, mem_down28 (fun b => [g b, h b]) b, List.mem_cons_self⟩),
   List.mem_append_right _ (List.mem_flatten.mpr ⟨_, mem_down28 (fun b => [g b, h b]) b, List.mem_cons_of_mem _ List.mem_cons_self⟩)⟩

theorem of_blk_list {α : Type} (f g h : Fin 28 → α) {p : α} (hp : p ∈ down28 f ++ (down28 fun b => [g b, h b]).flatten) :
    ∃ b, p = f b ∨ p = g b ∨ p = h b := by
  rcases List.mem_append.mp hp with hp | hp
  · obtain ⟨b, rfl⟩ := of_mem_down28 hp
    exact ⟨b, Or.inl rfl⟩
  · obtain ⟨l, hl, hp⟩ := List.mem_flatten.mp hp
    obtain ⟨b, rfl⟩ := of_mem_down28 hl
    rcases List.mem_cons.mp hp with rfl | hp
    · exact ⟨b, Or.inr (Or.inl rfl)⟩
    · exact ⟨b, Or.inr (Or.inr (List.mem_singleton.mp hp))⟩

/-! ## The loop -/

section Trip

variable (𝒱 : Variants) (c : Dev nD) (bd : Option 𝒱.V) (i : grid0.Coords) (arg2 : Memref sig .tc .vmem S1x28x128 .f32) (harg2 : arg2.IsWhole) (arg3 : Memref sig .tc .vmem S1x28x128 .f32) (harg3 : arg3.IsWhole) (arg4 : Memref sig .tc .vmem S1x28x128 .f32) (harg4 : arg4.IsWhole) (arg5 : Memref sig .tc .vmem S1x1x3584 .f32) (harg5 : arg5.IsWhole) (arg6 : Memref sig .tc .vmem S1x128x3584 .fp8e4m3) (harg6 : arg6.IsWhole) (arg7 : Memref sig .tc .vmem S1x128x3584 .bf16) (harg7 : arg7.IsWhole) (arg8 : Memref sig .tc .vmem S1x128x3584 .fp8e5m2) (harg8 : arg8.IsWhole) (arg9 : Memref sig .tc .vmem S1x128x3584 .fp8e5m2) (harg9 : arg9.IsWhole) (arg10 : Memref sig .tc .vmem S1x128x3584 .bf16) (harg10 : arg10.IsWhole) (arg11 : Memref sig .tc .vmem S1x3x3584 .f32) (harg11 : arg11.IsWhole) (arg12 : Memref sig .tc .vmem S1x3x1x1x3584 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (X_arg15 : BufTy.Contents (Elt F) arg15.view.ty)
  (G10 : BufTy.Contents (Elt F) arg10.view.ty) (G12 : BufTy.Contents (Elt F) arg12.view.ty)
  (S : Fin k0_t1_loop.trips → Step F)
  (hS : ∀ k, stepOf arg5 arg6 arg7 arg8 arg9 arg13 arg14 arg15 X_arg5 X_arg6 X_arg7 X_arg8 X_arg9 X_arg13 X_arg14 X_arg15 k = S k)
include hS

theorem trip_dx (k : Fin k0_t1_loop.trips) (f10 : BufTy.Contents (Elt F) arg10.view.ty) (f12 : BufTy.Contents (Elt F) arg12.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).1 f10 f12
      = down28 fun b => (⟨rectC k b, (S k).dxF b⟩ : View.Piece (Elt F) S1x128x3584 .bf16) := by
  rw [sl_dx, sl_gxMean, sl_gMean, sl_rstd, sl_mu, hS k]; rfl

theorem trip_blk (k : Fin k0_t1_loop.trips) (f10 : BufTy.Contents (Elt F) arg10.view.ty) (f12 : BufTy.Contents (Elt F) arg12.view.ty) :
    arg12.view.read (Elt F) (arg12.view.writes (Elt F) f12 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).2.1 f10 f12))
      = blkStep (S k) (arg12.view.read (Elt F) f12) := by
  rw [sl_blk, sl_rstd, sl_mu, hS k]
  have key : ∀ (a : Fin 3) (b : Fin 28) (x : (rectB a b).shape.Idx),
      blkAdd (View.readAt (Elt F) arg12.view (rectB a b).toLoadRect f12) ((S k).part (S k).mu ((S k).rstd (S k).mu) a b) x
        = blkStep (S k) (arg12.view.read (Elt F) f12) ((rectB a b).emb x) := fun a b x =>
    blk_agree (S k) (arg12.view.read (Elt F) f12) a b x
  generalize blkStep (S k) (arg12.view.read (Elt F) f12) = W at key ⊢
  have cov : ∀ y : S1x3x1x1x3584.Idx, ∃ (a : Fin 3) (b : Fin 28), y ∈ (rectB a b).set := fun y => ⟨y 1, _, mem_rectB y⟩
  have L := blk_list (fun b => (⟨rectB 2 b, blkAdd (View.readAt (Elt F) arg12.view (rectB 2 b).toLoadRect f12) ((S k).part (S k).mu ((S k).rstd (S k).mu) 2 b)⟩ : View.Piece (Elt F) S1x3x1x1x3584 .f32))
    (fun b => ⟨rectB 1 b, blkAdd (View.readAt (Elt F) arg12.view (rectB 1 b).toLoadRect f12) ((S k).part (S k).mu ((S k).rstd (S k).mu) 1 b)⟩)
    (fun b => ⟨rectB 0 b, blkAdd (View.readAt (Elt F) arg12.view (rectB 0 b).toLoadRect f12) ((S k).part (S k).mu ((S k).rstd (S k).mu) 0 b)⟩)
  have R := fun p => of_blk_list (p := p) (fun b => (⟨rectB 2 b, blkAdd (View.readAt (Elt F) arg12.view (rectB 2 b).toLoadRect f12) ((S k).part (S k).mu ((S k).rstd (S k).mu) 2 b)⟩ : View.Piece (Elt F) S1x3x1x1x3584 .f32))
    (fun b => ⟨rectB 1 b, blkAdd (View.readAt (Elt F) arg12.view (rectB 1 b).toLoadRect f12) ((S k).part (S k).mu ((S k).rstd (S k).mu) 1 b)⟩)
    (fun b => ⟨rectB 0 b, blkAdd (View.readAt (Elt F) arg12.view (rectB 0 b).toLoadRect f12) ((S k).part (S k).mu ((S k).rstd (S k).mu) 0 b)⟩)
  revert L R
  generalize (down28 _ ++ List.flatten _ : List (View.Piece (Elt F) S1x3x1x1x3584 .f32)) = l
  intro L R
  funext y
  refine read_agree _ _ _ _ ?_ y (Or.inl ?_)
  · intro p hp
    obtain ⟨b, rfl | rfl | rfl⟩ := R p hp
    · exact key 2 b
    · exact key 1 b
    · exact key 0 b
  · obtain ⟨a, b, hy⟩ := cov y
    fin_cases a
    · exact ⟨_, (L b).2.2, hy⟩
    · exact ⟨_, (L b).2.1, hy⟩
    · exact ⟨_, (L b).1, hy⟩

end Trip

/-- The loop, from what each step writes: `A k` and `B k` are the pieces of step `k`, `P n` the pieces
    of the first `n` steps. Every piece of the first result agrees with `dxM`, the rows of the steps
    done are covered, and the block sums are `blkN n`. -/
theorem loop_inv (v12 : View sig .tc .vmem S1x3x1x1x3584 .f32) (G12 : BufTy.Contents (Elt F) v12.ty)
    (S : Fin k0_t1_loop.trips → Step F)
    (P : ℕ → List (View.Piece (Elt F) S1x128x3584 .bf16) × List (View.Piece (Elt F) S1x3x1x1x3584 .f32))
    (A : Fin k0_t1_loop.trips → List (View.Piece (Elt F) S1x128x3584 .bf16))
    (B : Fin k0_t1_loop.trips → List (View.Piece (Elt F) S1x3x1x1x3584 .f32))
    (h0 : P 0 = ([], [])) (hs : ∀ k : Fin k0_t1_loop.trips, P (k.val + 1) = (A k ++ (P k.val).1, B k ++ (P k.val).2))
    (hA : ∀ k, A k = down28 fun b => (⟨rectC k b, (S k).dxF b⟩ : View.Piece (Elt F) S1x128x3584 .bf16))
    (hB : ∀ k : Fin k0_t1_loop.trips, v12.read (Elt F) (v12.writes (Elt F) (v12.writes (Elt F) G12 (P k.val).2) (B k))
      = blkStep (S k) (v12.read (Elt F) (v12.writes (Elt F) G12 (P k.val).2)))
    (hG : v12.read (Elt F) G12 = k0_pay424) : ∀ n, n ≤ k0_t1_loop.trips →
    (∀ p ∈ (P n).1, ∀ x, p.2 x = dxM S (p.1.emb x))
    ∧ (∀ y : S1x128x3584.Idx, (y 1).val / 32 < n → ∃ p ∈ (P n).1, y ∈ p.1.set)
    ∧ v12.read (Elt F) (v12.writes (Elt F) G12 (P n).2) = blkN S n
  | 0, _ => by
    rw [h0]
    exact ⟨fun p hp => absurd hp List.not_mem_nil, fun y h => absurd h (Nat.not_lt_zero _), hG⟩
  | n + 1, hn => by
    obtain ⟨h1, h2, h3⟩ := loop_inv v12 G12 S P A B h0 hs hA hB hG n (Nat.le_of_succ_le hn)
    have es : P (n + 1) = (A ⟨n, hn⟩ ++ (P n).1, B ⟨n, hn⟩ ++ (P n).2) := hs ⟨n, hn⟩
    rw [es]
    refine ⟨?_, ?_, ?_⟩
    · intro p hp
      rcases List.mem_append.mp hp with hp | hp
      · rw [hA] at hp
        obtain ⟨b, rfl⟩ := of_mem_down28 hp
        exact dx_agree S _ b
      · exact h1 p hp
    · intro y hy
      by_cases hy' : (y 1).val / 32 < n
      · obtain ⟨p, hp, hpy⟩ := h2 y hy'
        exact ⟨p, List.mem_append_right _ hp, hpy⟩
      · have e : (y 1).val / 32 = n := by omega
        refine ⟨⟨rectC ⟨n, hn⟩ (colB (y 2).val (y 2).isLt), (S ⟨n, hn⟩).dxF (colB (y 2).val (y 2).isLt)⟩, List.mem_append_left _ ?_, mem_rectC ⟨n, hn⟩ y e⟩
        rw [hA]
        exact mem_down28 (fun b => (⟨rectC ⟨n, hn⟩ b, (S ⟨n, hn⟩).dxF b⟩ : View.Piece (Elt F) S1x128x3584 .bf16)) _
    · dsimp only
      rw [View.writes_append, (hB ⟨n, hn⟩ :), h3]
      rw [blkN, dif_pos (show n < k0_t1_loop.trips from hn)]

section Loop

variable (𝒱 : Variants) (c : Dev nD) (bd : Option 𝒱.V) (i : grid0.Coords) (arg2 : Memref sig .tc .vmem S1x28x128 .f32) (harg2 : arg2.IsWhole) (arg3 : Memref sig .tc .vmem S1x28x128 .f32) (harg3 : arg3.IsWhole) (arg4 : Memref sig .tc .vmem S1x28x128 .f32) (harg4 : arg4.IsWhole) (arg5 : Memref sig .tc .vmem S1x1x3584 .f32) (harg5 : arg5.IsWhole) (arg6 : Memref sig .tc .vmem S1x128x3584 .fp8e4m3) (harg6 : arg6.IsWhole) (arg7 : Memref sig .tc .vmem S1x128x3584 .bf16) (harg7 : arg7.IsWhole) (arg8 : Memref sig .tc .vmem S1x128x3584 .fp8e5m2) (harg8 : arg8.IsWhole) (arg9 : Memref sig .tc .vmem S1x128x3584 .fp8e5m2) (harg9 : arg9.IsWhole) (arg10 : Memref sig .tc .vmem S1x128x3584 .bf16) (harg10 : arg10.IsWhole) (arg11 : Memref sig .tc .vmem S1x3x3584 .f32) (harg11 : arg11.IsWhole) (arg12 : Memref sig .tc .vmem S1x3x1x1x3584 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (X_arg15 : BufTy.Contents (Elt F) arg15.view.ty)
  (G10 : BufTy.Contents (Elt F) arg10.view.ty) (G12 : BufTy.Contents (Elt F) arg12.view.ty)
  (S : Fin k0_t1_loop.trips → Step F)
  (hS : ∀ k, stepOf arg5 arg6 arg7 arg8 arg9 arg13 arg14 arg15 X_arg5 X_arg6 X_arg7 X_arg8 X_arg9 X_arg13 X_arg14 X_arg15 k = S k)
include hS

theorem loop_all (hG : arg12.view.read (Elt F) G12 = k0_pay424) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k0_t1_loop.trips).1, ∀ x, p.2 x = dxM S (p.1.emb x))
    ∧ (∀ y : S1x128x3584.Idx, (y 1).val / 32 < k0_t1_loop.trips → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k0_t1_loop.trips).1, y ∈ p.1.set)
    ∧ arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k0_t1_loop.trips).2) = blkN S k0_t1_loop.trips :=
  loop_inv arg12.view G12 S (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12) (fun k => (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).1 (arg10.view.writes (Elt F) G10 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k.val).1)) (arg12.view.writes (Elt F) G12 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k.val).2)))
    (fun k => (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 k).2.1 (arg10.view.writes (Elt F) G10 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k.val).1)) (arg12.view.writes (Elt F) G12 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k.val).2)))
    (by rw [pb_k0_t1.eq_1]) (fun k => pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k)
    (fun k => trip_dx (hS := hS) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 S k _ _) (fun k => trip_blk (hS := hS) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 S k _ _) hG k0_t1_loop.trips le_rfl

theorem loop_dx (hG : arg12.view.read (Elt F) G12 = k0_pay424) :
    arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k0_t1_loop.trips).1) = dxM S := by
  obtain ⟨h1, h2, -⟩ := loop_all (hS := hS) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 S hG
  funext y
  refine read_agree _ _ _ _ h1 y (Or.inl (h2 y ?_))
  have : (y 1).val < 128 := (y 1).isLt
  rw [trips_eq]; omega

theorem loop_blk (hG : arg12.view.read (Elt F) G12 = k0_pay424) :
    arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 k0_t1_loop.trips).2) = blkN S 4 := by
  obtain ⟨-, -, h3⟩ := loop_all (hS := hS) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg5 X_arg6 X_arg7 X_arg8 X_arg9 X_arg13 X_arg14 X_arg15 G10 G12 S hG
  rw [h3, trips_eq]

end Loop

end Cert.Proof.KI

end
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.PureOps.BitExact

@[expose] public section

set_option maxHeartbeats 4000000
set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

abbrev 𝒱₀ : Variants := Variants.none

/-- The condition of the body's `when`: the second grid coordinate is zero. -/
abbrev first (i : grid0.Coords) : Prop :=
  Scalar.cmpi .ne (Scalar.extui (Scalar.cmpi .eq (BitVec.ofNat 32 (i 1).val) 0#32)) 0#32 = 1#1

noncomputable def runFirst (c : Dev nD) (i : grid0.Coords) (hi : first i) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32) :
    Σ' (Y10 : Vec F S1x128x3584 .bf16) (Y11 : Vec F S1x3x3584 .f32), { Y12 : Vec F S1x3x1x1x3584 .f32 //
      ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare Y10 ∗ owns (c : Thread nD τ) M11 fullShare Y11 ∗ owns (c : Thread nD τ) M12 fullShare Y12 ∗ (∃ d, owns (c : Thread nD τ) M13 fullShare d) ∗ (∃ d, owns (c : Thread nD τ) M14 fullShare d) ∗ (∃ d, owns (c : Thread nD τ) M15 fullShare d)) -∗ K ⟨⟩))
          ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K } := by
  refine ⟨?_, ?_, ?_, fun E K => ?run⟩
  case run =>
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    sl_unfold [cc0_adaln_bwd]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

noncomputable def runNext (c : Dev nD) (i : grid0.Coords) (hi : ¬ first i) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32) :
    Σ' (Y10 : Vec F S1x128x3584 .bf16) (Y11 : Vec F S1x3x3584 .f32), { Y12 : Vec F S1x3x1x1x3584 .f32 //
      ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare Y10 ∗ owns (c : Thread nD τ) M11 fullShare Y11 ∗ owns (c : Thread nD τ) M12 fullShare Y12 ∗ (∃ d, owns (c : Thread nD τ) M13 fullShare d) ∗ (∃ d, owns (c : Thread nD τ) M14 fullShare d) ∗ (∃ d, owns (c : Thread nD τ) M15 fullShare d)) -∗ K ⟨⟩))
          ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K } := by
  refine ⟨?_, ?_, ?_, fun E K => ?run⟩
  case run =>
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    sl_unfold [cc0_adaln_bwd]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

end Cert.Proof.KI

end
-- ==== Proof.Body.lean ====
module

public import proofs.«01_k».proof.Proof.Loop
public import proofs.«01_k».proof.Proof.Run
public import Idealize.ShloMosaic.Lib.Tactic

/-!
  What one grid point of the kernel leaves in its three results, as functions of the blocks it reads:
  the first result's block is `dxM` of the four steps `stepV`, the block sums are `blkN` of them, and
  the second result is what it held (zero at the first of the two points of a group) plus those sums.
-/

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI

variable {F : FTy → Type} [FloatOps F] [Named F]

/-- The part of the scratch that is stored and read. -/
abbrev rect28 : Rect S128x128 := Rect.unit (s := S128x128) ![0, 0] S128x28.size inb_S128x128_S128x28_0_0
abbrev full11 : Rect S1x3x3584 := Rect.unit (s := S1x3x3584) ![0, 0, 0] S1x3x3584.size inb_S1x3x3584_S1x3x3584_0_0_0
abbrev full12 : Rect S1x3x1x1x3584 := Rect.unit (s := S1x3x1x1x3584) ![0, 0, 0, 0, 0] S1x3x1x1x3584.size inb_S1x3x1x1x3584_S1x3x1x1x3584_0_0_0_0_0

/-- The scratch after `w` was stored into its first columns. -/
abbrev scr {M : Memref sig .tc .vmem S128x128 .f32} (h : M.IsWhole) (x : Vec F S128x128 .f32) (w : FVec F S128x28 .f32) :
    BufTy.Contents (Elt F) M.view.ty :=
  M.view.writes (Elt F) (h.unread x) [⟨rect28, w⟩]

/-- Where step `k` finds the scale of a row in lane block `b`. -/
def ixS (k : Fin k0_t1_loop.trips) (b : Fin 28) (y : S32x1.Idx) : S128x28.Idx := fun a => match a with
  | ⟨0, _⟩ => (⟨rowOff k + (y 0).val, by have := rowOff_le k; have h : (y 0).val < 32 := (y 0).isLt; omega⟩ : Fin 128)
  | ⟨1, _⟩ => (b : Fin 28)

/-- The column of scales step `k` uses for lane block `b`. -/
def sc (w : FVec F S128x28 .f32) (k : Fin k0_t1_loop.trips) (b : Fin 28) : Vec F S32x1 .f32 := fun y => w (ixS k b y)

theorem sc_read {M : Memref sig .tc .vmem S128x128 .f32} (h : M.IsWhole) (x : Vec F S128x128 .f32) (w : FVec F S128x28 .f32)
    (k : Fin k0_t1_loop.trips) (b : Fin 28) : View.readAt (Elt F) M.view (rectS k b).toLoadRect (scr h x w) = sc w k b := by
  funext y
  have e : (rectS k b).emb y = rect28.emb (ixS k b y) := by
    have h1 : (y 1).val < 1 := (y 1).isLt
    funext a; fin_cases a
    · exact Fin.ext (by show rowOff k + 1 * (y 0).val = 0 + 1 * (rowOff k + (y 0).val); omega)
    · exact Fin.ext (by show b.val + 1 * (y 1).val = 0 + 1 * b.val; omega)
  show M.view.read (Elt F) (scr h x w) ((rectS k b).emb y) = w (ixS k b y)
  rw [e]
  exact View.read_writes_cons_emb M.view (h.unread x) rect28 w [] (ixS k b y)

/-- Step `k` of the loop, from the blocks the grid point reads. -/
def stepV (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (k : Fin k0_t1_loop.trips) : Step F where
  m b := VecWindow.window x5 (offM b) S1x1x128.size (inbM b)
  x b := VecWindow.window x6 (offC k b) S1x32x128.size (inbC k b)
  f b := VecWindow.window x7 (offC k b) S1x32x128.size (inbC k b)
  dy b := VecWindow.window x8 (offC k b) S1x32x128.size (inbC k b)
  dh b := VecWindow.window x9 (offC k b) S1x32x128.size (inbC k b)
  sx b := sc (k0_pay420 x2) k b
  sdy b := sc (k0_pay421 x3) k b
  sdh b := sc (k0_pay422 x4) k b

section Point

variable (c : Dev nD) (i : grid0.Coords) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
  (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32)

theorem step_eq (k : Fin k0_t1_loop.trips) :
    stepOf M5 M6 M7 M8 M9 M13 M14 M15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) k = stepV x2 x3 x4 x5 x6 x7 x8 x9 k := by
  unfold stepOf stepV
  rw [Step.mk.injEq]
  refine ⟨funext fun b => ?_, funext fun b => ?_, funext fun b => ?_, funext fun b => ?_, funext fun b => ?_, funext fun b => ?_, funext fun b => ?_, funext fun b => ?_⟩
  · exact (View.readAt_unit _ _ _ rfl _).trans (congrArg (fun z => VecWindow.window z _ _ _) (h5.read_unread x5))
  · exact (View.readAt_unit _ _ _ rfl _).trans (congrArg (fun z => VecWindow.window z _ _ _) (h6.read_unread x6))
  · exact (View.readAt_unit _ _ _ rfl _).trans (congrArg (fun z => VecWindow.window z _ _ _) (h7.read_unread x7))
  · exact (View.readAt_unit _ _ _ rfl _).trans (congrArg (fun z => VecWindow.window z _ _ _) (h8.read_unread x8))
  · exact (View.readAt_unit _ _ _ rfl _).trans (congrArg (fun z => VecWindow.window z _ _ _) (h9.read_unread x9))
  · rw [sc_read, View.readAt_full, h2.read_unread]
  · rw [sc_read, View.readAt_full, h3.read_unread]
  · rw [sc_read, View.readAt_full, h4.read_unread]

theorem g12 : M12.view.read (Elt F) (M12.view.writes (Elt F) M12.view.junk [⟨full12, k0_pay424⟩]) = k0_pay424 := View.read_writes_full M12.view _ _ _ _

theorem first_dx (hi : first i) : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).1 = dxM (stepV x2 x3 x4 x5 x6 x7 x8 x9) := by
  have e : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).1 = M10.view.read (Elt F) (M10.view.writes (Elt F) (h10.unread x10) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).1) := by sl_kernel_rfl
  rw [e]
  exact loop_dx 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)

theorem first_blk (hi : first i) : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.1 = blkN (stepV x2 x3 x4 x5 x6 x7 x8 x9) 4 := by
  have e : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.1 = M12.view.read (Elt F) (M12.view.writes (Elt F) (M12.view.writes (Elt F) M12.view.junk [⟨full12, k0_pay424⟩]) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).2) := by sl_kernel_rfl
  rw [e]
  exact loop_blk 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)

theorem first_dmod (hi : first i) : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.1 = k0_pay1 k0_pay423 (blkN (stepV x2 x3 x4 x5 x6 x7 x8 x9) 4) := by
  have e : (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.1 = M11.view.read (Elt F) (M11.view.writes (Elt F) M11.view.junk
      [⟨full11, k0_pay1 (View.readAt (Elt F) M11.view full11.toLoadRect (M11.view.writes (Elt F) M11.view.junk [⟨full11, k0_pay423⟩])) (View.readAt (Elt F) M12.view full12.toLoadRect (M12.view.writes (Elt F) (M12.view.writes (Elt F) M12.view.junk [⟨full12, k0_pay424⟩]) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).2))⟩, ⟨full11, k0_pay423⟩]) := by sl_kernel_rfl
  rw [e, View.read_writes_full, View.readAt_full, View.readAt_full, loop_blk 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)]
  rw [View.read_writes_full]

theorem next_dx (hi : ¬ first i) : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).1 = dxM (stepV x2 x3 x4 x5 x6 x7 x8 x9) := by
  have e : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).1 = M10.view.read (Elt F) (M10.view.writes (Elt F) (h10.unread x10) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).1) := by sl_kernel_rfl
  rw [e]
  exact loop_dx 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)

theorem next_blk (hi : ¬ first i) : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.1 = blkN (stepV x2 x3 x4 x5 x6 x7 x8 x9) 4 := by
  have e : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.1 = M12.view.read (Elt F) (M12.view.writes (Elt F) (M12.view.writes (Elt F) M12.view.junk [⟨full12, k0_pay424⟩]) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).2) := by sl_kernel_rfl
  rw [e]
  exact loop_blk 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)

theorem next_dmod (hi : ¬ first i) : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.1 = k0_pay1 x11 (blkN (stepV x2 x3 x4 x5 x6 x7 x8 x9) 4) := by
  have e : (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.1 = M11.view.read (Elt F) (M11.view.writes (Elt F) M11.view.junk
      [⟨full11, k0_pay1 (View.readAt (Elt F) M11.view full11.toLoadRect (h11.unread x11)) (View.readAt (Elt F) M12.view full12.toLoadRect (M12.view.writes (Elt F) (M12.view.writes (Elt F) M12.view.junk [⟨full12, k0_pay424⟩]) (pb_k0_t1 (F := F) 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) k0_t1_loop.trips).2))⟩]) := by sl_kernel_rfl
  rw [e, View.read_writes_full, View.readAt_full, View.readAt_full, loop_blk 𝒱₀ c none i M2 h2 M3 h3 M4 h4 M5 h5 M6 h6 M7 h7 M8 h8 M9 h9 M10 h10 M11 h11 M12 h12 M13 h13 M14 h14 M15 h15 (h5.unread x5) (h6.unread x6) (h7.unread x7) (h8.unread x8) (h9.unread x9) (scr h13 x13 (k0_pay420 (View.readAt (Elt F) M2.view (Rect.unit (s := S1x28x128) ![0, 0, 0] S1x28x128.size inb_S1x28x128_S1x28x128_0_0_0).toLoadRect (h2.unread x2)))) (scr h14 x14 (k0_pay421 (View.readAt (Elt F) M3.view (Rect.unit (s := S1x28x128) ![0, 0, 0] S1x28x128.size inb_S1x28x128_S1x28x128_0_0_0).toLoadRect (h3.unread x3)))) (scr h15 x15 (k0_pay422 (View.readAt (Elt F) M4.view (Rect.unit (s := S1x28x128) ![0, 0, 0] S1x28x128.size inb_S1x28x128_S1x28x128_0_0_0).toLoadRect (h4.unread x4)))) (h10.unread x10) (M12.view.writes (Elt F) M12.view.junk [⟨full12, k0_pay424⟩]) (stepV x2 x3 x4 x5 x6 x7 x8 x9) (step_eq M2 h2 M3 h3 M4 h4 M5 h5 M6 h6 M7 h7 M8 h8 M9 h9 M13 h13 M14 h14 M15 h15 x2 x3 x4 x5 x6 x7 x8 x9 x13 x14 x15) (g12 M12)]
  rw [h11.read_unread]

end Point

end Cert.Proof.KI

end
-- ==== Proof.Point.lean ====
module

public import proofs.«01_k».proof.Proof.Body

/-!
  The kernel's pipeline: what every window's buffer holds after the body at a grid point, the body's
  obligation, the run of the whole program, and the frame.
-/

@[expose] public section

set_option maxHeartbeats 4000000
set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

/-- The body at one grid point: from any buffers, the three results are left at their values. `o` is what
    the second result's block holds before the point's sums are added: zero at the first point of a group. -/
theorem kernelAt (c : Dev nD) (i : grid0.Coords) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32)
    (o : Vec F S1x3x3584 .f32) (h0 : first i → o = k0_pay423) (h1 : ¬ first i → o = x11) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare (dxM (stepV x2 x3 x4 x5 x6 x7 x8 x9)) ∗ owns (c : Thread nD τ) M11 fullShare (k0_pay1 o (blkN (stepV x2 x3 x4 x5 x6 x7 x8 x9) 4)) ∗ owns (c : Thread nD τ) M12 fullShare (blkN (stepV x2 x3 x4 x5 x6 x7 x8 x9) 4) ∗ (∃ d, owns (c : Thread nD τ) M13 fullShare d) ∗ (∃ d, owns (c : Thread nD τ) M14 fullShare d) ∗ (∃ d, owns (c : Thread nD τ) M15 fullShare d)) -∗ K ⟨⟩))
      ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K := by
  by_cases hi : first i
  · rw [h0 hi, ← first_dmod c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi, ← first_dx c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi, ← first_blk c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi]
    exact (runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.2 E K
  · rw [h1 hi, ← next_dmod c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi, ← next_dx c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi, ← next_blk c i M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 hi]
    exact (runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15).2.2.2 E K

variable (m : (ℓ : Loc nD τ sig) → Buf (Elt F) ℓ) (ρ : Dev nD → PrngReg)

/-- The loop's steps at grid point `t`. -/
def stepsAt (c : Dev nD) (t : Fin cfg0.N) : Fin k0_t1_loop.trips → Step F :=
  stepV (iblk m c 0 t) (iblk m c 1 t) (iblk m c 2 t) (iblk m c 3 t) (iblk m c 4 t) (iblk m c 5 t) (iblk m c 6 t) (iblk m c 7 t)

/-- The first result's block, the block sums, and the second result's block before and after the body. -/
def dxAt (c : Dev nD) (t : Fin cfg0.N) : Vec F S1x128x3584 .bf16 := dxM (stepsAt m c t)
def blkOut (c : Dev nD) (t : Fin cfg0.N) : Vec F S1x3x1x1x3584 .f32 := blkN (stepsAt m c t) 4
def modIn (c : Dev nD) (t : Fin cfg0.N) : Vec F S1x3x3584 .f32 :=
  if t.val % 2 = 0 then k0_pay423 else k0_pay1 k0_pay423 (blkOut m c ⟨t.val - 1, Nat.lt_of_le_of_lt (Nat.sub_le _ _) t.isLt⟩)
def modAt (c : Dev nD) (t : Fin cfg0.N) : Vec F S1x3x3584 .f32 := k0_pay1 (modIn m c t) (blkOut m c t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxAt m c t
    | ⟨9, _⟩ => modAt m c t
    | ⟨10, _⟩ => blkOut m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxAt m c t := by dsimp only [dats]
theorem after0_9 (c : Dev nD) (t : Fin cfg0.N) : (dats m 0 c).after 9 t = modAt m c t := by dsimp only [dats]
theorem after0_10 (c : Dev nD) (t : Fin cfg0.N) : (dats m 0 c).after 10 t = blkOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The points of the second grid axis: the first of each group of two has an even number. -/
theorem first_iff : ∀ t : Fin cfg0.N, first (grid0.coords t) ↔ t.val % 2 = 0 :=
  by decide +kernel

/-- At a later point of a group the second result's buffer holds what the point before left. -/
theorem modIn_next (c : Dev nD) (t : Fin cfg0.N) (ht : ¬ t.val % 2 = 0) (d) : (dats m 0 c).before 9 t d = modIn m c t := by
  have ht0 : t.val ≠ 0 := fun h => ht (by rw [h])
  have hf : (cfg0.win 9).flush ⟨t.val - 1, Nat.lt_of_le_of_lt (Nat.sub_le _ _) t.isLt⟩ = false := by
    rw [Bool.eq_false_iff]
    exact fun h => by have := (flush0_9 _).mp h; dsimp only at this; omega
  rw [(dats m 0 c).before_out_kept 9 rfl t ht0 hf (fun _ => rfl) (fun _ _ => rfl), after0_9]
  unfold modAt
  have h1 : modIn m c ⟨t.val - 1, Nat.lt_of_le_of_lt (Nat.sub_le _ _) t.isLt⟩ = k0_pay423 := by
    unfold modIn; exact if_pos (by dsimp only; omega)
  rw [h1]
  unfold modIn
  rw [if_neg ht]

/-- The three scratch buffers, as the region hands them to the body. -/
theorem scopedRest_owns (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0) fullShare f) ∗ (∃ f, owns (c : Thread nD τ) (Memref.whole cc0_scratch1) fullShare f)
          ∗ (∃ f, owns (c : Thread nD τ) (Memref.whole cc0_scratch2) fullShare f)) := by
  rw [scopedRest0_eq]
  simp only [owns_whole]

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10]
  rw [show (dats m 0 c).Φ t.castSucc = Pipeline.ΦA spec0 c from rfl]
  unfold Pipeline.ΦA
  rw [scopedRest_owns]
  unfold modAt dxAt blkOut stepsAt
  iintro ⟨⟨⟨⟨%f0, F0⟩, ⟨%f1, F1⟩, ⟨%f2, F2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelAt c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ ((dats m 0 c).before 9 t d9) _ f0 f1 f2 (modIn m c t)
    (fun h => if_pos ((first_iff t).mp h)) (fun h => (modIn_next m c t (fun e => h ((first_iff t).mpr e)) d9).symm) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [F0]; · iexact F0
  isplitl [F1]; · iexact F1
  isplitl [F2]; · iexact F2
  iintro ⟨H0, H1, H2, H3, H4, H5, H6, H7, H8, H9, H10, ⟨%g0, F0⟩, ⟨%g1, F1⟩, ⟨%g2, F2⟩⟩
  isplitl [F0 F1 F2 Hp]
  · isplitr [Hp]; swap; · iexact Hp
    isplitl [F0]; · iexists g0; iexact F0
    isplitl [F1]; · iexists g1; iexact F1
    iexists g2; iexact F2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every fair execution of the program terminates, with every array of the pipeline at what the proof data
    computes, the host lines after it done, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) (hQ' := fun _ h => h) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) fun _ _ => rfl) (run_main m ρ)

end Cert.Proof.KI

end
-- ==== Proof.KRun.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.PureOps.BitExact

@[expose] public section

set_option maxHeartbeats 4000000
set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- The condition of the body's `when`: the second grid coordinate is zero. -/
abbrev first (i : grid0.Coords) : Prop :=
  Scalar.cmpi .ne (Scalar.extui (Scalar.cmpi .eq (BitVec.ofNat 32 (i 1).val) 0#32)) 0#32 = 1#1

theorem runFirst (c : Dev nD) (i : grid0.Coords) (hi : first i) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32) :
    ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d)) -∗ K ⟨⟩))
          ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K := by
  refine fun E K => ?run
  case run =>
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    sl_unfold [cc0_adaln_bwd]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

theorem runNext (c : Dev nD) (i : grid0.Coords) (hi : ¬ first i) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32) :
    ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d)) -∗ K ⟨⟩))
          ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K := by
  refine fun E K => ?run
  case run =>
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    sl_unfold [cc0_adaln_bwd]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

end Cert.Proof.K

end
-- ==== Proof.KPoint.lean ====
module

public import proofs.«01_k».proof.Proof.KRun

/-!
  The frame of the kernel at machine numbers: its body runs at every grid point, leaving its inputs as they
  are and something in its results, so the program terminates with its arguments unchanged.
-/

@[expose] public section

set_option maxHeartbeats 4000000
set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- The body at one grid point. -/
theorem kernelAt (c : Dev nD) (i : grid0.Coords) (M2 : Memref sig .tc .vmem S1x28x128 .f32) (h2 : M2.IsWhole) (M3 : Memref sig .tc .vmem S1x28x128 .f32) (h3 : M3.IsWhole) (M4 : Memref sig .tc .vmem S1x28x128 .f32) (h4 : M4.IsWhole) (M5 : Memref sig .tc .vmem S1x1x3584 .f32) (h5 : M5.IsWhole) (M6 : Memref sig .tc .vmem S1x128x3584 .fp8e4m3) (h6 : M6.IsWhole) (M7 : Memref sig .tc .vmem S1x128x3584 .bf16) (h7 : M7.IsWhole) (M8 : Memref sig .tc .vmem S1x128x3584 .fp8e5m2) (h8 : M8.IsWhole) (M9 : Memref sig .tc .vmem S1x128x3584 .fp8e5m2) (h9 : M9.IsWhole) (M10 : Memref sig .tc .vmem S1x128x3584 .bf16) (h10 : M10.IsWhole) (M11 : Memref sig .tc .vmem S1x3x3584 .f32) (h11 : M11.IsWhole) (M12 : Memref sig .tc .vmem S1x3x1x1x3584 .f32) (h12 : M12.IsWhole) (M13 : Memref sig .tc .vmem S128x128 .f32) (h13 : M13.IsWhole) (M14 : Memref sig .tc .vmem S128x128 .f32) (h14 : M14.IsWhole) (M15 : Memref sig .tc .vmem S128x128 .f32) (h15 : M15.IsWhole)
    (x2 : Vec F S1x28x128 .f32) (x3 : Vec F S1x28x128 .f32) (x4 : Vec F S1x28x128 .f32) (x5 : Vec F S1x1x3584 .f32) (x6 : Vec F S1x128x3584 .fp8e4m3) (x7 : Vec F S1x128x3584 .bf16) (x8 : Vec F S1x128x3584 .fp8e5m2) (x9 : Vec F S1x128x3584 .fp8e5m2) (x10 : Vec F S1x128x3584 .bf16) (x11 : Vec F S1x3x3584 .f32) (x12 : Vec F S1x3x1x1x3584 .f32) (x13 : Vec F S128x128 .f32) (x14 : Vec F S128x128 .f32) (x15 : Vec F S128x128 .f32)
    (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d)) -∗ K ⟨⟩))
      ⊢ wp frame (wpE (defs₀ (F := F)) 𝒱₀ c none) E (cc0_adaln_bwd i M2 h2 M3 h3 M4 h4 M5 h5 M6 h6 M7 h7 M8 h8 M9 h9 M10 h10 M11 h11 M12 h12 M13 h13 M14 h14 M15 h15) K := by
  by_cases hi : first i
  · exact runFirst c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 E K
  · exact runNext c i hi M2 h2 M3 h3 M4 h4 M5 h5 M6 h6 M7 h7 M8 h8 M9 h9 M10 h10 M11 h11 M12 h12 M13 h13 M14 h14 M15 h15 x2 x3 x4 x5 x6 x7 x8 x9 x10 x11 x12 x13 x14 x15 E K

variable (m : (ℓ : Loc nD τ sig) → Buf (Elt F) ℓ) (ρ : Dev nD → PrngReg)

/-- The results' windows: what they hold is not named here. -/
def outs : Fin cfg0.W → Bool
  | 8 => true | 9 => true | 10 => true | _ => false

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.arbitrary _
    | ⟨9, _⟩ => fun _ => Classical.arbitrary _
    | ⟨10, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The three scratch buffers, as the region hands them to the body. -/
theorem scopedRest_owns (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0) fullShare f) ∗ (∃ f, owns (c : Thread nD τ) (Memref.whole cc0_scratch1) fullShare f)
          ∗ (∃ f, owns (c : Thread nD τ) (Memref.whole cc0_scratch2) fullShare f)) := by
  rw [scopedRest0_eq]
  simp only [owns_whole]

theorem body_obligation (c : Dev nD) : BodyObligation (dats (F := F) m 0 c) (defs₀ (F := F)) 𝒱₀ () Set.univ outs := fun t => by
  rw [bigSep_W0, bigSep_W0]
  sl_whnfR [defs₀, Defs.onTc]
  simp only [outs, before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7]
  rw [show (dats m 0 c).Φ t.castSucc = Pipeline.ΦA spec0 c from rfl]
  unfold Pipeline.ΦA
  rw [scopedRest_owns]
  iintro ⟨⟨⟨⟨%f0, F0⟩, ⟨%f1, F1⟩, ⟨%f2, F2⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelAt c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8 d9 d10 f0 f1 f2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [F0]; · iexact F0
  isplitl [F1]; · iexact F1
  isplitl [F2]; · iexact F2
  iintro ⟨H0, H1, H2, H3, H4, H5, H6, H7, ⟨%e8, H8⟩, ⟨%e9, H9⟩, ⟨%e10, H10⟩, ⟨%g0, F0⟩, ⟨%g1, F1⟩, ⟨%g2, F2⟩⟩
  isplitl [F0 F1 F2 Hp]
  · isplitr [Hp]; swap; · iexact Hp
    isplitl [F0]; · iexists g0; iexact F0
    isplitl [F1]; · iexists g1; iexact F1
    iexists g2; iexact F2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists e8; iexact H8
  isplitl [H9]; · iexists e9; iexact H9
  iexists e10; iexact H10

/-- The buffers the host lines after the kernel write. -/
def tails : Finset (Ref sig .tc) := {main_v5, main_v6}

theorem sfx_tails : ∀ ops ∈ ([hostOps1] : List (List (HloOp τ sig (Elt F)))), ∀ op ∈ ops, ∀ b : Ref sig .tc, Proc.devRef .tc b ∈ op.writes → b ∈ tails := by
  intro ops ho op hop b hb
  rw [List.mem_singleton] at ho; subst ho
  simp only [hostOps1, List.mem_cons, List.not_mem_nil, or_false] at hop
  rcases hop with rfl | rfl
  all_goals
    simp only [StableHlo.nullary_writes, StableHlo.unary_writes, StableHlo.reshape_writes, Finset.mem_singleton] at hb
    have := Proc.devRef_injective .tc hb
    subst this; decide

theorem rest_mem (b : Ref sig .tc) (h1 : b.isScoped = false) (h2 : ∀ w, (spec0 w).arr.view.ref ≠ b) (h3 : b ∉ tails) :
    b ∈ Pipeline.restRefs sig (cfgs 0).spec \ tails :=
  Finset.mem_sdiff.mpr ⟨Pipeline.mem_restRefs_of b h1 h2, h3⟩

set_option backward.isDefEq.respectTransparency.types false in
/-- Every fair execution of the program terminates, with the arguments' arrays as they were and every semaphore
    counter at zero. -/
theorem run_main : θ_run defs (onTc (τ := τ) (main (F := F))) (s₀ m ρ)
    (fun r => Pipeline.RDat.FramePostR (cfgs 0) (fun c => (dats m 0 c).toRForget outs) tails (V m) r ∧ r.2.sem = fun _ => 0) :=
  Pipeline.θ_run_frame_around_T_forget (Q' := _) (hQ' := fun _ h => h) cfgs (dats m) (0 : Fin 1) launch0 defs₀ 𝒱₀ outs tails m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_tails)
    (hmain := hmain m 𝒱₀) (hA := fun _ _ => rfl) (hΦ := fun _ _ => rfl)

/-- The frame: the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => by
    have h := hr.1
    exact ⟨(((dats m 0 c).toRForget_arrAt_iff (w := 4) rfl _ _).mp ((h c).1 4)).trans (((dats m 0 c).arrAt_in 4 rfl _).trans (V_main_arg0 m c)), ((h c).2 main_arg1 (rest_mem main_arg1 (by decide) (by decide) (by decide))).trans (V_main_arg1 m c), (((dats m 0 c).toRForget_arrAt_iff (w := 5) rfl _ _).mp ((h c).1 5)).trans (((dats m 0 c).arrAt_in 5 rfl _).trans (V_main_arg2 m c)), (((dats m 0 c).toRForget_arrAt_iff (w := 6) rfl _ _).mp ((h c).1 6)).trans (((dats m 0 c).arrAt_in 6 rfl _).trans (V_main_arg3 m c)), ((h c).2 main_arg4 (rest_mem main_arg4 (by decide) (by decide) (by decide))).trans (V_main_arg4 m c), (((dats m 0 c).toRForget_arrAt_iff (w := 7) rfl _ _).mp ((h c).1 7)).trans (((dats m 0 c).arrAt_in 7 rfl _).trans (V_main_arg5 m c)), ((h c).2 main_arg6 (rest_mem main_arg6 (by decide) (by decide) (by decide))).trans (V_main_arg6 m c), ((h c).2 main_arg7 (rest_mem main_arg7 (by decide) (by decide) (by decide))).trans (V_main_arg7 m c)⟩, hr.2⟩) (run_main m ρ)

end Cert.Proof.K

end
-- ==== Proof.Row.lean ====
module

public import proofs.«01_k».proof.Proof.Loop
public import Idealize.ShloMosaic.Lib.Pointwise

/-!
  One row of tokens in exact arithmetic. `Row` holds a row's dequantized numbers, by column block and lane, and the
  definitions after it are the problem's mathematics on that row. The theorems after them read the kernel's step of
  32 rows at an index: every row of it is `Row`'s.
-/

@[expose] public section

set_option maxRecDepth 16384

noncomputable section

namespace Cert.Proof

open Idealize.ShloMosaic Idealize.ShloMosaic.TcCoe Idealize.SL.Sem

/-- A row's numbers: 28 column blocks of 128 lanes. -/
structure Row where
  x : Fin 28 → Fin 128 → EReal
  dy : Fin 28 → Fin 128 → EReal
  dh : Fin 28 → Fin 128 → EReal
  f : Fin 28 → Fin 128 → EReal
  m : Fin 28 → Fin 128 → EReal

namespace Row

/-- The mean of a row's 3584 numbers. -/
def mean (v : Fin 28 → Fin 128 → EReal) : EReal := (∑ b, ∑ l, v b l) * ((1 / 3584 : ℝ) : EReal)

variable (R : Row)

def mu : EReal := mean R.x
def rstd : EReal :=
  Ideal.rsqrt (mean (fun b l => (R.x b l - R.mu) * (R.x b l - R.mu)) + Ideal.ofBits .f32 0x358637BD#32)
def xhat (b : Fin 28) (l : Fin 128) : EReal := (R.x b l - R.mu) * R.rstd
def g (b : Fin 28) (l : Fin 128) : EReal := R.dh b l * (1 + R.m b l)
def gMean : EReal := mean R.g
def gxMean : EReal := mean fun b l => R.g b l * R.xhat b l
/-- The gradient of the row. -/
def dx (b : Fin 28) (l : Fin 128) : EReal := R.dy b l + R.rstd * (R.g b l - R.gMean - R.xhat b l * R.gxMean)
/-- The row's share of the three sums over tokens. -/
def part (a : Fin 3) (b : Fin 28) (l : Fin 128) : EReal :=
  match a with
  | 0 => R.dh b l
  | 1 => R.dh b l * R.xhat b l
  | 2 => R.dy b l * R.f b l

end Row

end Cert.Proof

namespace Cert.Proof.KI

open Cert.KernelIdeal Cert.KernelIdeal.Gen
open Idealize.ShloMosaic Idealize.ShloMosaic.TcCoe Idealize.SL.Sem

theorem invD_eq : invD (F := Ideal) = ((1 / 3584 : ℝ) : EReal) :=
  IdealRules.named_const.ideal_named_scalar _ _ _ _ rfl

theorem foldr_at (L : List (FVec Ideal S32x128 .f32)) (z : FVec Ideal S32x128 .f32) (y : S32x128.Idx) :
    (show EReal from L.foldr (fun v a => addf a v) z y) = (show EReal from z y) + (L.map fun v => (show EReal from v y)).sum := by
  induction L with
  | nil => exact (add_zero _).symm
  | cons v L ih =>
    show (show EReal from L.foldr (fun v a => addf a v) z y) + (show EReal from v y) = _
    rw [ih, List.map_cons, List.sum_cons, add_assoc, add_comm (List.sum _)]

theorem down28_eq {α : Type} (p : Fin 28 → α) : down28 p = (List.ofFn p).reverse := rfl

theorem acc28_at (g : Fin 28 → FVec Ideal S32x128 .f32) (y : S32x128.Idx) :
    (show EReal from acc28 g y) = ∑ b, (show EReal from g b y) := by
  unfold acc28
  rw [foldr_at, down28_eq, List.map_reverse, List.sum_reverse, List.map_ofFn, List.sum_ofFn]
  show Ideal.ofBits .f32 0x00000000#32 + _ = _
  rw [Ideal.ofBits_zero_f32, zero_add]
  rfl

theorem rowMean_at (a : FVec Ideal S32x128 .f32) (r : Fin 32) :
    (show EReal from rowMean a (ix2 r 0)) = (∑ l : Fin 128, (show EReal from a (ix2 r l))) * ((1 / 3584 : ℝ) : EReal) := by
  rw [← invD_eq]
  pointwise [rowMean]

theorem colSum_at (a : FVec Ideal S32x128 .f32) (l : Fin 128) :
    (show EReal from colSum a (ix2 0 l)) = ∑ r : Fin 32, (show EReal from a (ix2 r l)) := by
  pointwise [colSum]

/-- The mean of a row, summed over the lanes of the blocks' sum. -/
theorem mean_at (g : Fin 28 → FVec Ideal S32x128 .f32) (r : Fin 32) :
    (show EReal from rowMean (acc28 g) (ix2 r 0)) = Row.mean fun b l => (show EReal from g b (ix2 r l)) := by
  rw [rowMean_at]
  unfold Row.mean
  rw [Finset.sum_comm]
  congr 1
  exact Finset.sum_congr rfl fun l _ => acc28_at g _

namespace Step

variable (T : Step Ideal)

/-- Row `r` of a step. -/
def row (r : Fin 32) : Row where
  x b l := (show EReal from T.x b (ix3 0 r l)) * (show EReal from T.sx b (ix2 r 0))
  dy b l := (show EReal from T.dy b (ix3 0 r l)) * (show EReal from T.sdy b (ix2 r 0))
  dh b l := (show EReal from T.dh b (ix3 0 r l)) * (show EReal from T.sdh b (ix2 r 0))
  f b l := T.f b (ix3 0 r l)
  m b l := T.m b (ix3 0 0 l)

theorem xv_at (b : Fin 28) (r : Fin 32) (l : Fin 128) : (show EReal from T.xv b (ix2 r l)) = (T.row r).x b l := by
  pointwise [xv, deq4, lanes, row]
theorem dyv_at (b : Fin 28) (r : Fin 32) (l : Fin 128) : (show EReal from T.dyv b (ix2 r l)) = (T.row r).dy b l := by
  pointwise [dyv, deq5, lanes, row]
theorem dhv_at (b : Fin 28) (r : Fin 32) (l : Fin 128) : (show EReal from T.dhv b (ix2 r l)) = (T.row r).dh b l := by
  pointwise [dhv, deq5, lanes, row]

theorem mu_at (r : Fin 32) : (show EReal from T.mu (ix2 r 0)) = (T.row r).mu := by
  unfold mu Row.mu
  rw [mean_at]
  congr 1; funext b l; exact T.xv_at b r l

theorem rs_at (r : Fin 32) : (show EReal from T.rs (ix2 r 0)) = (T.row r).rstd := by
  unfold rs rstd Row.rstd
  show Ideal.rsqrt ((show EReal from rowMean (acc28 fun b => mulf (subf (T.xv b) (lanes T.mu)) (subf (T.xv b) (lanes T.mu))) (ix2 r 0))
    + Ideal.ofBits .f32 0x358637BD#32) = _
  rw [mean_at]
  congr 3; funext b l
  rw [← T.xv_at b r l, ← T.mu_at r]
  pointwise [lanes]

theorem xhat_at (b : Fin 28) (r : Fin 32) (l : Fin 128) : (show EReal from T.xhat T.mu T.rs b (ix2 r l)) = (T.row r).xhat b l := by
  unfold Row.xhat
  rw [← T.xv_at b r l, ← T.mu_at r, ← T.rs_at r]
  pointwise [xhat, lanes]

theorem g_at (b : Fin 28) (r : Fin 32) (l : Fin 128) : (show EReal from T.g b (ix2 r l)) = (T.row r).g b l := by
  unfold Row.g
  rw [← T.dhv_at b r l]
  pointwise [g, row]

theorem gMean_at (r : Fin 32) : (show EReal from T.gMean (ix2 r 0)) = (T.row r).gMean := by
  unfold gMean Row.gMean
  rw [mean_at]
  congr 1; funext b l; exact T.g_at b r l

theorem gxMean_at (r : Fin 32) : (show EReal from T.gxMean T.mu T.rs (ix2 r 0)) = (T.row r).gxMean := by
  unfold gxMean Row.gxMean
  rw [mean_at]
  congr 1; funext b l
  rw [← T.g_at b r l, ← T.xhat_at b r l]
  rfl

theorem dxF_at (b : Fin 28) (r : Fin 32) (l : Fin 128) : (show EReal from T.dxF b (ix3 0 r l)) = (T.row r).dx b l := by
  unfold Row.dx
  rw [← T.dyv_at b r l, ← T.rs_at r, ← T.g_at b r l, ← T.gMean_at r, ← T.xhat_at b r l, ← T.gxMean_at r]
  pointwise [dxF, dx, lanes]

theorem partF_at (a : Fin 3) (b : Fin 28) (l : Fin 128) :
    (show EReal from T.partF a b (ix2 0 l)) = ∑ r : Fin 32, (T.row r).part a b l := by
  unfold partF part Row.part
  fin_cases a
  · exact (colSum_at _ l).trans (Finset.sum_congr rfl fun r _ => T.dhv_at b r l)
  · refine (colSum_at _ l).trans (Finset.sum_congr rfl fun r _ => ?_)
    rw [← T.dhv_at b r l, ← T.xhat_at b r l]
    rfl
  · refine (colSum_at _ l).trans (Finset.sum_congr rfl fun r _ => ?_)
    rw [← T.dyv_at b r l]
    pointwise [row]

end Step

end Cert.Proof.KI

end
-- ==== Proof.Ref.lean ====
module

public import proofs.«01_k».proof.Proof.Row
public import proofs.«01_k».proof.Proof.Gen.ReferenceIdeal.Frame

/-!
  The reference's results in exact arithmetic, read at an index: each is a number of the `Row` its index lies in, or a
  sum of such numbers over the rows of a block.
-/

@[expose] public section

set_option maxRecDepth 16384

noncomputable section

namespace Cert.Proof.RI

open Cert.ReferenceIdeal Cert.ReferenceIdeal.Gen
open Idealize.ShloMosaic Idealize.ShloMosaic.TcCoe Idealize.SL.Sem

/-- Channel `l` of column block `b`. -/
def chan (b : Fin 28) (l : Fin 128) : Fin 3584 := ⟨b.val * 128 + l.val, by omega⟩

/-- The column block of a channel, and its lane. -/
def cb (n : Fin 3584) : Fin 28 := ⟨n.val / 128, by omega⟩
def cl (n : Fin 3584) : Fin 128 := ⟨n.val % 128, by omega⟩

theorem ofBits_3584 : Ideal.ofBits .f32 0x45600000#32 = ((3584 : ℝ) : EReal) := by
  simp [Ideal.ofBits, Ideal.ieee, -EReal.coe_mul]; norm_num

theorem div_3584 (x : EReal) : Ideal.div x (Ideal.ofBits .f32 0x45600000#32) = x * ((1 / 3584 : ℝ) : EReal) := by
  rw [ofBits_3584, Ideal.div_coe (by norm_num)]

section

variable (x : Vec Ideal S6x256x3584 .fp8e4m3) (sx : Vec Ideal S6x256x28 .f32) (f : Vec Ideal S6x256x3584 .bf16)
  (dy : Vec Ideal S6x256x3584 .fp8e5m2) (sdy : Vec Ideal S6x256x28 .f32) (dh : Vec Ideal S6x256x3584 .fp8e5m2)
  (sdh : Vec Ideal S6x256x28 .f32) (m : Vec Ideal S6x3584 .f32)

/-- Row `s` of batch element `i`. -/
def row (i : Fin 6) (s : Fin 256) : Row where
  x b l := (show EReal from x (ix3 i s (chan b l))) * (show EReal from sx (ix3 i s b))
  dy b l := (show EReal from dy (ix3 i s (chan b l))) * (show EReal from sdy (ix3 i s b))
  dh b l := (show EReal from dh (ix3 i s (chan b l))) * (show EReal from sdh (ix3 i s b))
  f b l := f (ix3 i s (chan b l))
  m b l := m (ix2 i (chan b l))

theorem dy_at (i : Fin 6) (s : Fin 256) (b : Fin 28) (l : Fin 128) :
    (show EReal from k0_pay2 dy sdy (ix4 i s b l)) = (row x sx f dy sdy dh sdh m i s).dy b l := by
  pointwise [k0_pay2, row, chan]
theorem dh_at (i : Fin 6) (s : Fin 256) (b : Fin 28) (l : Fin 128) :
    (show EReal from k0_pay3 dh sdh (ix4 i s b l)) = (row x sx f dy sdy dh sdh m i s).dh b l := by
  pointwise [k0_pay3, row, chan]
theorem f_at (i : Fin 6) (s : Fin 256) (b : Fin 28) (l : Fin 128) :
    (show EReal from k0_pay4 f (ix4 i s b l)) = (row x sx f dy sdy dh sdh m i s).f b l := by
  pointwise [k0_pay4, row, chan]
theorem xc_at (i : Fin 6) (s : Fin 256) (b : Fin 28) (l : Fin 128) :
    (show EReal from k0_pay5 x sx (ix4 i s b l)) = (row x sx f dy sdy dh sdh m i s).x b l - (row x sx f dy sdy dh sdh m i s).mu := by
  unfold Row.mu Row.mean
  rw [← div_3584]
  pointwise [k0_pay5, row, chan]
theorem rstd_at (i : Fin 6) (s : Fin 256) :
    (show EReal from k0_pay7 (k0_pay6 x sx) (ix4 i s 0 0)) = (row x sx f dy sdy dh sdh m i s).rstd := by
  unfold Row.rstd Row.mean
  rw [← div_3584]
  simp only [← xc_at x sx f dy sdy dh sdh m]
  pointwise [k0_pay7, k0_pay6]
theorem xhat_at (i : Fin 6) (s : Fin 256) (b : Fin 28) (l : Fin 128) :
    (show EReal from k0_pay8 (k0_pay5 x sx) (k0_pay6 x sx) (ix4 i s b l)) = (row x sx f dy sdy dh sdh m i s).xhat b l := by
  unfold Row.xhat
  rw [← xc_at x sx f dy sdy dh sdh m, ← rstd_at x sx f dy sdy dh sdh m]
  pointwise [k0_pay8]
theorem g_at (i : Fin 6) (s : Fin 256) (b : Fin 28) (l : Fin 128) :
    (show EReal from k0_pay11 (k0_pay3 dh sdh) m (ix4 i s b l)) = (row x sx f dy sdy dh sdh m i s).g b l := by
  unfold Row.g
  rw [← dh_at x sx f dy sdy dh sdh m]
  pointwise [k0_pay11, row, chan]
theorem gxMean_at (i : Fin 6) (s : Fin 256) :
    (show EReal from k0_pay12 (k0_pay3 dh sdh) (k0_pay5 x sx) (k0_pay6 x sx) m (ix4 i s 0 0)) = (row x sx f dy sdy dh sdh m i s).gxMean := by
  unfold Row.gxMean Row.mean
  rw [← div_3584]
  simp only [← g_at x sx f dy sdy dh sdh m, ← xhat_at x sx f dy sdy dh sdh m]
  pointwise [k0_pay12]
theorem gMean_at (i : Fin 6) (s : Fin 256) (b : Fin 28) (l : Fin 128) :
    (show EReal from k0_pay13 (k0_pay3 dh sdh) m (ix4 i s b l)) = (row x sx f dy sdy dh sdh m i s).gMean := by
  unfold Row.gMean Row.mean
  rw [← div_3584]
  simp only [← g_at x sx f dy sdy dh sdh m]
  pointwise [k0_pay13]

/-- The first result. -/
def dx : FVec Ideal S6x256x3584 .bf16 :=
  k0_pay1 (k0_pay2 dy sdy) (k0_pay7 (k0_pay6 x sx)) (k0_pay8 (k0_pay5 x sx) (k0_pay6 x sx)) (k0_pay11 (k0_pay3 dh sdh) m)
    (k0_pay12 (k0_pay3 dh sdh) (k0_pay5 x sx) (k0_pay6 x sx) m) (k0_pay13 (k0_pay3 dh sdh) m)
/-- The second result. -/
def dmod : FVec Ideal S6x3x3584 .f32 := k0_pay10 (k0_pay2 dy sdy) (k0_pay3 dh sdh) (k0_pay4 f) (k0_pay5 x sx) (k0_pay6 x sx)
/-- The third result. -/
def blk : FVec Ideal S6x2x3x3584 .f32 := k0_pay9 (k0_pay2 dy sdy) (k0_pay3 dh sdh) (k0_pay4 f) (k0_pay5 x sx) (k0_pay6 x sx)

theorem dx_at (i : Fin 6) (s : Fin 256) (n : Fin 3584) :
    (show EReal from dx x sx dy sdy dh sdh m (ix3 i s n)) = (row x sx f dy sdy dh sdh m i s).dx (cb n) (cl n) := by
  unfold Row.dx
  rw [← dy_at x sx f dy sdy dh sdh m, ← rstd_at x sx f dy sdy dh sdh m, ← g_at x sx f dy sdy dh sdh m,
    ← gMean_at x sx f dy sdy dh sdh m i s (cb n) (cl n), ← xhat_at x sx f dy sdy dh sdh m, ← gxMean_at x sx f dy sdy dh sdh m]
  pointwise [dx, k0_pay1, cb, cl]

/-- The token of row `r` in block `j`. -/
def tok (j : Fin 2) (r : Fin 128) : Fin 256 := ⟨j.val * 128 + r.val, by omega⟩

theorem blk_at (i : Fin 6) (j : Fin 2) (a : Fin 3) (n : Fin 3584) :
    (show EReal from blk x sx f dy sdy dh sdh (ix4 i j a n)) = ∑ r : Fin 128, (row x sx f dy sdy dh sdh m i (tok j r)).part a (cb n) (cl n) := by
  fin_cases a
  · simp only [Row.part, ← dh_at x sx f dy sdy dh sdh m]
    pointwise [blk, k0_pay9, cb, cl, tok]
  · simp only [Row.part, ← dh_at x sx f dy sdy dh sdh m, ← xhat_at x sx f dy sdy dh sdh m]
    pointwise [blk, k0_pay9, cb, cl, tok]
  · simp only [Row.part, ← dy_at x sx f dy sdy dh sdh m, ← f_at x sx f dy sdy dh sdh m]
    pointwise [blk, k0_pay9, cb, cl, tok]

theorem dmod_at (i : Fin 6) (a : Fin 3) (n : Fin 3584) :
    (show EReal from dmod x sx f dy sdy dh sdh (ix3 i a n))
      = ∑ j : Fin 2, (show EReal from blk x sx f dy sdy dh sdh (ix4 i j a n)) := by
  pointwise [dmod, blk, k0_pay10]

end

end Cert.Proof.RI

end
-- ==== Proof.Value.lean ====
module

public import proofs.«01_k».proof.Proof.Ref
public import proofs.«01_k».proof.Proof.Point
public import Idealize.ShloMosaic.Lib.Pipeline.ValueKit
public import Idealize.ShloMosaic.Lib.Claim

/-!
  The kernel's results in exact arithmetic. A step's rows are rows of the arguments (`row_eq`); so what the body
  leaves at a grid point is the reference's result there.
-/

@[expose] public section

set_option maxRecDepth 16384

noncomputable section

namespace Cert.Proof.KI

open Cert.KernelIdeal Cert.KernelIdeal.Gen
open Idealize.ShloMosaic Idealize.ShloMosaic.TcCoe Idealize.SL.Sem
open Cert.Proof.RI (chan cb cl tok)

/-! ## The sums over a block of tokens -/

theorem pay1_at (acc : Vec Ideal S1x3x3584 .f32) (v : Vec Ideal S1x3x1x1x3584 .f32) (a : Fin 3) (n : Fin 3584) :
    (show EReal from k0_pay1 acc v (ix3 0 a n)) = (show EReal from acc (ix3 0 a n)) + (show EReal from v (ix5 0 a 0 0 n)) := by
  pointwise [k0_pay1]

theorem zero423_at (y) : (show EReal from k0_pay423 (F := Ideal) y) = 0 := by pointwise [k0_pay423]
theorem zero424_at (y) : (show EReal from k0_pay424 (F := Ideal) y) = 0 := by pointwise [k0_pay424]

theorem blkAdd_at (old : Vec Ideal S1x1x1x1x128 .f32) (s : FVec Ideal S1x128 .f32) (l : Fin 128) :
    (show EReal from blkAdd old s (ix5 0 0 0 0 l)) = (show EReal from old (ix5 0 0 0 0 l)) + (show EReal from s (ix2 0 l)) := by
  pointwise [blkAdd]

theorem locB_eq (a : Fin 3) (n : Fin 3584) : locB (ix5 0 a 0 0 n) = ix5 0 0 0 0 (cl n) := by
  funext d; fin_cases d <;> rfl

theorem blkStep_at (T : Step Ideal) (old : Vec Ideal S1x3x1x1x3584 .f32) (a : Fin 3) (n : Fin 3584) :
    (show EReal from blkStep T old (ix5 0 a 0 0 n))
      = (show EReal from old (ix5 0 a 0 0 n)) + ∑ r : Fin 32, (T.row r).part a (cb n) (cl n) := by
  show (show EReal from blkAt T old a (cb n) (locB (ix5 0 a 0 0 n))) = _
  rw [locB_eq]
  unfold blkAt
  rw [blkAdd_at, Step.partF_at]
  congr 1
  show old ((rectB a (cb n)).emb (ix5 0 0 0 0 (cl n))) = _
  congr 1
  funext d; fin_cases d
  · rfl
  · exact Fin.ext (by show a.val + 1 * 0 = a.val; omega)
  · rfl
  · rfl
  · exact Fin.ext (by show 128 * (n.val / 128) + 1 * (n.val % 128) = n.val; omega)

theorem blkN_at (S : Fin k0_t1_loop.trips → Step Ideal) (a : Fin 3) (n : Fin 3584) :
    (show EReal from blkN S 4 (ix5 0 a 0 0 n))
      = ∑ k : Fin 4, ∑ r : Fin 32, ((S ⟨k.val, by rw [trips_eq]; exact k.isLt⟩).row r).part a (cb n) (cl n) := by
  rw [Fin.sum_univ_four]
  have h : ∀ k, k < 4 → k < k0_t1_loop.trips := fun k hk => by rw [trips_eq]; exact hk
  simp only [blkN, h 0 (by decide), h 1 (by decide), h 2 (by decide), h 3 (by decide), dite_true]
  refine (blkStep_at _ _ a n).trans (congrArg (· + _) ?_)
  refine (blkStep_at _ _ a n).trans (congrArg (· + _) ?_)
  refine (blkStep_at _ _ a n).trans (congrArg (· + _) ?_)
  exact (blkStep_at _ _ a n).trans (by rw [zero424_at, zero_add]; rfl)

/-! ## The rows a step reads -/

variable (m : (ℓ : Loc nD τ sig) → Buf (Elt Ideal) ℓ)

theorem idx : ∀ t : Fin cfg0.N, win0_0.index t = ![t.val / 2, 0, t.val % 2] ∧ win0_1.index t = ![t.val / 2, 0, t.val % 2]
    ∧ win0_2.index t = ![t.val / 2, 0, t.val % 2] ∧ win0_3.index t = ![t.val / 2, 0, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] ∧ win0_9.index t = ![t.val / 2, 0, 0]
    ∧ win0_10.index t = ![t.val / 2, 0, t.val % 2, 0, 0] ∧ t.val / 2 < 6 ∧ t.val < 12 :=
  (by decide +kernel : ∀ t : Fin grid0.N, _)

/-- The batch element and the half of the tokens of a grid point. -/
def bi (t : Fin cfg0.N) : Fin 6 := ⟨t.val / 2, (idx t).2.2.2.2.2.2.2.2.2.2.2.1⟩
def bj (t : Fin cfg0.N) : Fin 2 := ⟨t.val % 2, Nat.mod_lt _ (by decide)⟩

/-- Row `r` of step `k`, in the block. -/
def rk (k : Fin k0_t1_loop.trips) (r : Fin 32) : Fin 128 :=
  ⟨32 * k.val + r.val, by have := k.isLt; have h : k0_t1_loop.trips = 4 := trips_eq; omega⟩

/-- A row of the arguments. -/
def rowAt (c : Dev nD) (i : Fin 6) (s : Fin 256) : Row :=
  RI.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) i s

/-- Where a step's lane block lies in a block of 128 tokens. -/
theorem embC (k : Fin k0_t1_loop.trips) (b : Fin 28) (r : Fin 32) (l : Fin 128) :
    (rectC k b).emb (ix3 0 r l) = (ix3 0 (rk k r) (chan b l) : S1x128x3584.Idx) := by
  funext d; fin_cases d
  · rfl
  · exact Fin.ext (by show rowOff k + 1 * r.val = 32 * k.val + r.val; rw [rowOff_eq]; omega)
  · exact Fin.ext (by show 128 * b.val + 1 * l.val = b.val * 128 + l.val; omega)

theorem embM (b : Fin 28) (l : Fin 128) : (rectM b).emb (ix3 0 0 l) = (ix3 0 0 (chan b l) : S1x1x3584.Idx) := by
  funext d; fin_cases d
  · rfl
  · rfl
  · exact Fin.ext (by show 128 * b.val + 1 * l.val = b.val * 128 + l.val; omega)

theorem embS (k : Fin k0_t1_loop.trips) (b : Fin 28) (r : Fin 32) : ixS k b (ix2 r 0) = (ix2 (rk k r) b : S128x28.Idx) := by
  funext d; fin_cases d
  · exact Fin.ext (by show rowOff k + r.val = 32 * k.val + r.val; rw [rowOff_eq])
  · rfl

theorem pay420_at (v : Vec Ideal S1x28x128 .f32) (p : Fin 128) (b : Fin 28) : k0_pay420 v (ix2 p b) = v (ix3 0 b p) := by
  pointwise [k0_pay420]
theorem pay421_at (v : Vec Ideal S1x28x128 .f32) (p : Fin 128) (b : Fin 28) : k0_pay421 v (ix2 p b) = v (ix3 0 b p) := by
  pointwise [k0_pay421]
theorem pay422_at (v : Vec Ideal S1x28x128 .f32) (p : Fin 128) (b : Fin 28) : k0_pay422 v (ix2 p b) = v (ix3 0 b p) := by
  pointwise [k0_pay422]

section Blocks

variable (c : Dev nD) (t : Fin cfg0.N)

theorem x_blk (p : Fin 128) (n : Fin 3584) : (show Vec Ideal S1x128x3584 .fp8e4m3 from iblk m c 4 t) (ix3 0 p n)
    = m ((c : Thread nD τ).loc main_arg0) (ix3 (bi t) (tok (bj t) p) n) := by
  unfold bi bj tok
  blk_ext [iblk, V_main_arg0, idx t]
theorem f_blk (p : Fin 128) (n : Fin 3584) : (show Vec Ideal S1x128x3584 .bf16 from iblk m c 5 t) (ix3 0 p n)
    = m ((c : Thread nD τ).loc main_arg2) (ix3 (bi t) (tok (bj t) p) n) := by
  unfold bi bj tok
  blk_ext [iblk, V_main_arg2, idx t]
theorem dy_blk (p : Fin 128) (n : Fin 3584) : (show Vec Ideal S1x128x3584 .fp8e5m2 from iblk m c 6 t) (ix3 0 p n)
    = m ((c : Thread nD τ).loc main_arg3) (ix3 (bi t) (tok (bj t) p) n) := by
  unfold bi bj tok
  blk_ext [iblk, V_main_arg3, idx t]
theorem dh_blk (p : Fin 128) (n : Fin 3584) : (show Vec Ideal S1x128x3584 .fp8e5m2 from iblk m c 7 t) (ix3 0 p n)
    = m ((c : Thread nD τ).loc main_arg5) (ix3 (bi t) (tok (bj t) p) n) := by
  unfold bi bj tok
  blk_ext [iblk, V_main_arg5, idx t]

theorem V_v0 : V m c main_v0 = transpose S6x28x256 [0, 2, 1] (m ((c : Thread nD τ).loc main_arg1)) transposes_S6x256x28_S6x28x256_0_2_1 := by
  show StableHlo.after hostOps0 _ _ = _
  after_results
theorem V_v1 : V m c main_v1 = transpose S6x28x256 [0, 2, 1] (m ((c : Thread nD τ).loc main_arg4)) transposes_S6x256x28_S6x28x256_0_2_1 := by
  show StableHlo.after hostOps0 _ _ = _
  after_results
theorem V_v2 : V m c main_v2 = transpose S6x28x256 [0, 2, 1] (m ((c : Thread nD τ).loc main_arg6)) transposes_S6x256x28_S6x28x256_0_2_1 := by
  show StableHlo.after hostOps0 _ _ = _
  after_results
theorem V_v3 : V m c main_v3 = shapeCast S6x1x3584 (m ((c : Thread nD τ).loc main_arg7)) shapeCasts_S6x3584_S6x1x3584 := by
  show StableHlo.after hostOps0 _ _ = _
  after_results
  rfl

theorem tr_at (v : Vec Ideal S6x256x28 .f32) (i : Fin 6) (b : Fin 28) (s : Fin 256) :
    transpose S6x28x256 [0, 2, 1] v transposes_S6x256x28_S6x28x256_0_2_1 (ix3 i b s) = v (ix3 i s b) := by
  pointwise

theorem sx_blk (p : Fin 128) (b : Fin 28) : (show Vec Ideal S1x28x128 .f32 from iblk m c 0 t) (ix3 0 b p)
    = m ((c : Thread nD τ).loc main_arg1) (ix3 (bi t) (tok (bj t) p) b) := by
  refine Eq.trans (b := V m c main_v0 (ix3 (bi t) b (tok (bj t) p))) ?_ ((congrFun (V_v0 m c) _).trans (tr_at _ _ _ _))
  unfold bi bj tok
  blk_ext [iblk, idx t]
theorem sdy_blk (p : Fin 128) (b : Fin 28) : (show Vec Ideal S1x28x128 .f32 from iblk m c 1 t) (ix3 0 b p)
    = m ((c : Thread nD τ).loc main_arg4) (ix3 (bi t) (tok (bj t) p) b) := by
  refine Eq.trans (b := V m c main_v1 (ix3 (bi t) b (tok (bj t) p))) ?_ ((congrFun (V_v1 m c) _).trans (tr_at _ _ _ _))
  unfold bi bj tok
  blk_ext [iblk, idx t]
theorem sdh_blk (p : Fin 128) (b : Fin 28) : (show Vec Ideal S1x28x128 .f32 from iblk m c 2 t) (ix3 0 b p)
    = m ((c : Thread nD τ).loc main_arg6) (ix3 (bi t) (tok (bj t) p) b) := by
  refine Eq.trans (b := V m c main_v2 (ix3 (bi t) b (tok (bj t) p))) ?_ ((congrFun (V_v2 m c) _).trans (tr_at _ _ _ _))
  unfold bi bj tok
  blk_ext [iblk, idx t]

theorem cast_at (v : Vec Ideal S6x3584 .f32) (i : Fin 6) (n : Fin 3584) :
    shapeCast S6x1x3584 v shapeCasts_S6x3584_S6x1x3584 (ix3 i 0 n) = v (ix2 i n) := by
  pointwise

theorem m_blk (n : Fin 3584) : (show Vec Ideal S1x1x3584 .f32 from iblk m c 3 t) (ix3 0 0 n)
    = m ((c : Thread nD τ).loc main_arg7) (ix2 (bi t) n) := by
  refine Eq.trans (b := V m c main_v3 (ix3 (bi t) 0 n)) ?_ ((congrFun (V_v3 m c) _).trans (cast_at _ _ _))
  unfold bi
  blk_ext [iblk, idx t]

/-- A row of a step is a row of the arguments. -/
theorem row_eq (k : Fin k0_t1_loop.trips) (r : Fin 32) : (stepsAt m c t k).row r = rowAt m c (bi t) (tok (bj t) (rk k r)) := by
  unfold rowAt RI.row Step.row
  rw [Row.mk.injEq]
  refine ⟨funext fun b => funext fun l => Ideal.mul_congr ?_ ?_, funext fun b => funext fun l => Ideal.mul_congr ?_ ?_,
    funext fun b => funext fun l => Ideal.mul_congr ?_ ?_, funext fun b => funext fun l => ?_, funext fun b => funext fun l => ?_⟩
  · exact (congrArg (show Vec Ideal S1x128x3584 .fp8e4m3 from iblk m c 4 t) (embC k b r l)).trans (x_blk m c t _ _)
  · exact (congrArg (k0_pay420 (iblk m c 0 t)) (embS k b r)).trans ((pay420_at _ _ _).trans (sx_blk m c t _ _))
  · exact (congrArg (show Vec Ideal S1x128x3584 .fp8e5m2 from iblk m c 6 t) (embC k b r l)).trans (dy_blk m c t _ _)
  · exact (congrArg (k0_pay421 (iblk m c 1 t)) (embS k b r)).trans ((pay421_at _ _ _).trans (sdy_blk m c t _ _))
  · exact (congrArg (show Vec Ideal S1x128x3584 .fp8e5m2 from iblk m c 7 t) (embC k b r l)).trans (dh_blk m c t _ _)
  · exact (congrArg (k0_pay422 (iblk m c 2 t)) (embS k b r)).trans ((pay422_at _ _ _).trans (sdh_blk m c t _ _))
  · exact (congrArg (show Vec Ideal S1x128x3584 .bf16 from iblk m c 5 t) (embC k b r l)).trans (f_blk m c t _ _)
  · exact (congrArg (show Vec Ideal S1x1x3584 .f32 from iblk m c 3 t) (embM b l)).trans (m_blk m c t _)

end Blocks

/-! ## What the body leaves at a grid point -/

/-- The arguments' arrays, through the reference's results. -/
def dxV (c : Dev nD) : FVec Ideal S6x256x3584 .bf16 :=
  RI.dx (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7))
def dmodV (c : Dev nD) : FVec Ideal S6x3x3584 .f32 :=
  RI.dmod (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
def blkV (c : Dev nD) : FVec Ideal S6x2x3x3584 .f32 :=
  RI.blk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable (c : Dev nD) (t : Fin cfg0.N)

theorem dxAt_point (p : Fin 128) (n : Fin 3584) : (show EReal from dxAt m c t (ix3 0 p n)) = dxV m c (ix3 (bi t) (tok (bj t) p) n) := by
  have hp := p.isLt
  refine Eq.trans ?_ (RI.dx_at _ _ (m ((c : Thread nD τ).loc main_arg2)) _ _ _ _ _ (bi t) (tok (bj t) p) n).symm
  have e : locC (ix3 0 p n) = ix3 0 ⟨p.val % 32, Nat.mod_lt _ (by decide)⟩ (cl n) := by
    funext d; fin_cases d <;> rfl
  have er : rk (rowK p.val hp) ⟨p.val % 32, Nat.mod_lt _ (by decide)⟩ = p :=
    Fin.ext (by show 32 * (p.val / 32) + p.val % 32 = p.val; omega)
  show (show EReal from ((stepsAt m c t) (rowK p.val hp)).dxF (cb n) (locC (ix3 0 p n))) = _
  rw [e, Step.dxF_at, row_eq, er]
  rfl

theorem blkOut_point (a : Fin 3) (n : Fin 3584) :
    (show EReal from blkOut m c t (ix5 0 a 0 0 n)) = blkV m c (ix4 (bi t) (bj t) a n) := by
  refine Eq.trans ?_ (RI.blk_at _ _ _ _ _ _ _ (m ((c : Thread nD τ).loc main_arg7)) (bi t) (bj t) a n).symm
  unfold blkOut
  rw [blkN_at, show (∑ r : Fin 128, (RI.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (bi t) (tok (bj t) r)).part a (cb n) (cl n))
      = ∑ r : Fin 128, (rowAt m c (bi t) (tok (bj t) r)).part a (cb n) (cl n) from rfl,
    Fin.sum_univ_tiles 4 32 rfl fun r : Fin 128 => (rowAt m c (bi t) (tok (bj t) r)).part a (cb n) (cl n)]
  refine Finset.sum_congr rfl fun k _ => Finset.sum_congr rfl fun r _ => ?_
  rw [row_eq]
  congr 3
  exact Fin.ext (by show 32 * k.val + r.val = k.val * 32 + r.val; omega)

theorem modAt_point (ht : t.val % 2 = 1) (a : Fin 3) (n : Fin 3584) :
    (show EReal from modAt m c t (ix3 0 a n)) = dmodV m c (ix3 (bi t) a n) := by
  refine Eq.trans ?_ (RI.dmod_at _ _ _ _ _ _ _ (bi t) a n).symm
  have hb : ∀ j : Fin 2, (show EReal from RI.blk (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (ix4 (bi t) j a n)) = blkV m c (ix4 (bi t) j a n) := fun _ => rfl
  rw [Fin.sum_univ_two, hb, hb]
  unfold modAt modIn
  rw [if_neg (by omega), pay1_at, pay1_at, zero423_at, zero_add, blkOut_point, blkOut_point]
  have ei : bi ⟨t.val - 1, Nat.lt_of_le_of_lt (Nat.sub_le _ _) t.isLt⟩ = bi t := Fin.ext (by show (t.val - 1) / 2 = t.val / 2; omega)
  have e0 : bj ⟨t.val - 1, Nat.lt_of_le_of_lt (Nat.sub_le _ _) t.isLt⟩ = 0 := Fin.ext (by show (t.val - 1) % 2 = 0; omega)
  have e1 : bj t = 1 := Fin.ext ht
  rw [ei, e0, e1]

/-! ## The arrays after the run -/

theorem final8 : (dats m 0 c).arrAt 8 cfg0.N = dxV m c := by
  refine (dats m 0 c).arrAt_eq_of_covers 8 _ (by decide +kernel) fun t _ y => ?_
  blk_simp
  rw [after0_8]
  have e : y = ix3 0 (y 1) (y 2) := by blk_ext []
  refine (congrArg (dxAt m c t) e).trans ((dxAt_point m c t (y 1) (y 2)).trans (congrArg (dxV m c) ?_))
  unfold bi bj tok
  blk_ext [idx t]

theorem final9 : (dats m 0 c).arrAt 9 cfg0.N = dmodV m c := by
  refine (dats m 0 c).arrAt_eq_of_covers 9 _ (by decide +kernel) fun t hf y => ?_
  blk_simp
  rw [after0_9]
  have e : y = ix3 0 (y 1) (y 2) := by blk_ext []
  refine (congrArg (modAt m c t) e).trans ((modAt_point m c t ((flush0_9 t).mp hf) (y 1) (y 2)).trans (congrArg (dmodV m c) ?_))
  unfold bi
  blk_ext [idx t]

theorem final10 : (dats m 0 c).arrAt 10 cfg0.N = fun i : S6x3x2x1x3584.Idx => blkV m c (ix4 (i 0) (i 2) (i 1) (i 4)) := by
  refine (dats m 0 c).arrAt_eq_of_covers 10 _ (by decide +kernel) fun t _ y => ?_
  blk_simp
  rw [after0_10]
  have e : y = ix5 0 (y 1) 0 0 (y 4) := by blk_ext []
  refine (congrArg (blkOut m c t) e).trans ((blkOut_point m c t (y 1) (y 4)).trans (congrArg (blkV m c) ?_))
  unfold bi bj
  blk_ext [idx t]

/-- The block sums' axes in the order of the third result. -/
theorem tail_eq (G : FVec Ideal S6x2x3x3584 .f32) :
    transpose S6x2x3x3584 [0, 2, 1, 3]
      (shapeCast S6x3x2x3584 (fun i : S6x3x2x1x3584.Idx => G (ix4 (i 0) (i 2) (i 1) (i 4))) shapeCasts_S6x3x2x1x3584_S6x3x2x3584)
      transposes_S6x3x2x3584_S6x2x3x3584_0_2_1_3 = G := by
  funext i
  idx_vars i
  pointwise

end Cert.Proof.KI

end
-- ==== Proof.ValueRun.lean ====
module

public import proofs.«01_k».proof.Proof.Value

/-!
  The kernel's run in exact arithmetic: its three results end at `dxV`, `dmodV` and `blkV`.
-/

@[expose] public section

set_option maxRecDepth 16384

noncomputable section

namespace Cert.Proof.KI

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The host's reshape and transpose of the third result. -/
theorem tail_v6 (c : Dev nD) : Pipeline.afterTail₀ cfgs (dats m) 0 (V0 m) [hostOps1] c main_v6 = blkV m c := by
  refine Eq.trans ?_ (tail_eq (blkV m c))
  rw [← final10 m c]
  unfold Pipeline.afterTail₀
  show StableHlo.after hostOps1 _ _ = _
  after_region_results
  exact congrArg (fun X => transpose S6x2x3x3584 [0, 2, 1, 3] (shapeCast S6x3x2x3584 X shapeCasts_S6x3x2x1x3584_S6x3x2x3584)
    transposes_S6x3x2x3584_S6x2x3x3584_0_2_1_3) (Pipeline.withArrays_arr spec0 launch0.win.arr_inj c (V0 m c) _ 10)

theorem values : θ_run defs (onTc (τ := τ) (main (F := Ideal))) ⟨m, fun _ => 0, ρ⟩ (fun r => ∀ c : Dev nD,
      r.2.mem ((c.tc : Thread nD τ).loc main_v4_0) = dxV m c
      ∧ r.2.mem ((c.tc : Thread nD τ).loc main_v4_1) = dmodV m c
      ∧ r.2.mem ((c.tc : Thread nD τ).loc main_v6) = blkV m c) :=
  (θ_run defs _ _).mono (fun r h c => ⟨(h.1.out_eq c 8).trans (final8 m c), (h.1.out_eq c 9).trans (final9 m c),
    ((h.1 c).2 main_v6 (Pipeline.mem_restRefs_of main_v6 (by decide) (by decide))).trans (tail_v6 m c)⟩) (run_main m ρ)

end Cert.Proof.KI

end
-- ==== Proof.RefRun.lean ====
module

public import proofs.«01_k».proof.Proof.Ref
public import Idealize.ShloMosaic.Lib.Pipeline.ValueKit
public import Idealize.ShloMosaic.Lib.Claim

/-!
  The reference's run: its three arrays end at `RI.dx`, `RI.dmod` and `RI.blk` of the arguments.
-/

@[expose] public section

set_option maxRecDepth 16384

noncomputable section

namespace Cert.Proof.RI

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0] :=
  (by decide +kernel : ∀ t : Fin grid0.N, _)

theorem blk0 (t : Fin cfg0.N) : iblk m c 0 t = m ((c : Thread nD τ).loc main_arg0) := by blk_ext! [iblk, V, idx t]
theorem blk1 (t : Fin cfg0.N) : iblk m c 1 t = m ((c : Thread nD τ).loc main_arg1) := by blk_ext! [iblk, V, idx t]
theorem blk2 (t : Fin cfg0.N) : iblk m c 2 t = m ((c : Thread nD τ).loc main_arg2) := by blk_ext! [iblk, V, idx t]
theorem blk3 (t : Fin cfg0.N) : iblk m c 3 t = m ((c : Thread nD τ).loc main_arg3) := by blk_ext! [iblk, V, idx t]
theorem blk4 (t : Fin cfg0.N) : iblk m c 4 t = m ((c : Thread nD τ).loc main_arg4) := by blk_ext! [iblk, V, idx t]
theorem blk5 (t : Fin cfg0.N) : iblk m c 5 t = m ((c : Thread nD τ).loc main_arg5) := by blk_ext! [iblk, V, idx t]
theorem blk6 (t : Fin cfg0.N) : iblk m c 6 t = m ((c : Thread nD τ).loc main_arg6) := by blk_ext! [iblk, V, idx t]
theorem blk7 (t : Fin cfg0.N) : iblk m c 7 t = m ((c : Thread nD τ).loc main_arg7) := by blk_ext! [iblk, V, idx t]

theorem ld_0 {e : EltTy} (X : S6x256x3584.Idx → Elt Ideal e) : View.ld X r0_0 = X := View.ld_unit_zero (funext fun a => by fin_cases a <;> rfl) _ X
theorem ld_1 {e : EltTy} (X : S6x256x28.Idx → Elt Ideal e) : View.ld X r0_1 = X := View.ld_unit_zero (funext fun a => by fin_cases a <;> rfl) _ X
theorem ld_4 {e : EltTy} (X : S6x3584.Idx → Elt Ideal e) : View.ld X r0_4 = X := View.ld_unit_zero (funext fun a => by fin_cases a <;> rfl) _ X

variable (x : Vec Ideal S6x256x3584 .fp8e4m3) (sx : Vec Ideal S6x256x28 .f32) (f : Vec Ideal S6x256x3584 .bf16)
  (dy : Vec Ideal S6x256x3584 .fp8e5m2) (sdy : Vec Ideal S6x256x28 .f32) (dh : Vec Ideal S6x256x3584 .fp8e5m2) (sdh : Vec Ideal S6x256x28 .f32)
  (ms : Vec Ideal S6x3584 .f32)

theorem out8 : out0_8 x sx f dy sdy dh sdh ms = dx x sx dy sdy dh sdh ms := by
  unfold_out out0_8
  rw [View.canon_cons_unit_zero (funext fun a => by fin_cases a <;> rfl)]
  simp only [ld_0, ld_1, ld_4]
  rfl

theorem out9 : out0_9 x sx f dy sdy dh sdh ms = dmod x sx f dy sdy dh sdh := by
  unfold_out out0_9
  rw [View.canon_cons_unit_zero (funext fun a => by fin_cases a <;> rfl)]
  simp only [ld_0, ld_1, ld_4]
  rfl

theorem out10 : out0_10 x sx f dy sdy dh sdh ms = blk x sx f dy sdy dh sdh := by
  unfold_out out0_10
  rw [View.canon_cons_unit_zero (funext fun a => by fin_cases a <;> rfl)]
  simp only [ld_0, ld_1, ld_4]
  rfl

theorem final8 : (dats m 0 c).arrAt 8 (cfgs 0).N
    = dx (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 8 t0_0 (by decide +kernel) _ fun j => ?_
  blk_simp
  rw [after0_8, out8, blk0, blk1, blk3, blk4, blk5, blk6, blk7]

theorem final9 : (dats m 0 c).arrAt 9 (cfgs 0).N
    = dmod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_0 (by decide +kernel) _ fun j => ?_
  blk_simp
  rw [after0_9, out9, blk0, blk1, blk2, blk3, blk4, blk5, blk6]

theorem final10 : (dats m 0 c).arrAt 10 (cfgs 0).N
    = blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_0 (by decide +kernel) _ fun j => ?_
  blk_simp
  rw [after0_10, out10, blk0, blk1, blk2, blk3, blk4, blk5, blk6]

end Cert.Proof.RI

end
-- ==== Proof.Algebraic.lean ====
module

public import proofs.«01_k».proof.Defs
public import proofs.«01_k».proof.Proof.ValueRun
public import proofs.«01_k».proof.Proof.RefRun

/-!
  In exact arithmetic the kernel and the reference end with the same three results.
-/

@[expose] public section

set_option maxRecDepth 16384

noncomputable section

open Idealize.ShloMosaic Idealize.ShloMosaic.TcCoe Idealize.SL.Sem

namespace Cert.Proof

/-- The two runs end with the same arrays: each side's results are the reference's functions of the arguments, and the
    two memories agree on the arguments. -/
theorem algebraic : @Cert.algebraic_KernelIdeal_ReferenceIdeal Cert.KernelIdeal.Gen.facts Cert.ReferenceIdeal.Gen.facts := by
  intro m g m' g' _ hagree
  refine ⟨fun c => KI.dxV m c, fun c => KI.dmodV m c, fun c => KI.blkV m c, ?_, ?_⟩
  · refine (θ_run Cert.KernelIdeal.defs _ _).mono (fun r h c => ?_) (θ_run_and (KI.values m g) (KI.frame m g))
    exact ⟨(h.1 c).1, (h.1 c).2.1, (h.1 c).2.2, h.2.1 c⟩
  · refine (θ_run Cert.ReferenceIdeal.defs _ _).mono (fun r h c => ?_)
      (θ_run_and (Cert.ReferenceIdeal.Gen.run_main m' g') (Cert.ReferenceIdeal.Gen.frame m' g'))
    obtain ⟨h0, h1, h2, h3, h4, h5, h6, h7⟩ := hagree c
    refine ⟨((h.1 c).1 8).trans ((RI.final8 m' c).trans ?_), ((h.1 c).1 9).trans ((RI.final9 m' c).trans ?_),
      ((h.1 c).1 10).trans ((RI.final10 m' c).trans ?_), h.2.1 c⟩
    · rw [h0, h1, h3, h4, h5, h6, h7]; rfl
    · rw [h0, h1, h2, h3, h4, h5, h6]; rfl
    · rw [h0, h1, h2, h3, h4, h5, h6]; rfl

end Cert.Proof

end
-- ==== Proof.lean ====
module

public import proofs.«01_k».proof.Defs
public import proofs.«01_k».proof.Proof.Point
public import proofs.«01_k».proof.Proof.KPoint
public import proofs.«01_k».proof.Proof.Algebraic
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame

@[expose] public section

noncomputable section

namespace Cert.Proof

open Idealize.ShloMosaic Idealize.SL.Sem

/-- The named constant denotes what its pattern rounds. -/
theorem preserves : Cert.preserves_Kernel_KernelIdeal :=
  IdealRules.named_const.statement Cert.KernelIdeal.κ "inv_d" .f32 0x39924925#32 ((1 / 3584 : ℝ) : EReal) rfl

theorem claim : Cert.Claim := ⟨Cert.Kernel.Gen.facts, Cert.KernelIdeal.Gen.facts, Cert.ReferenceIdeal.Gen.facts,
  fun m ρ _ => Cert.Proof.K.frame m ρ, fun m ρ _ => Cert.Proof.KI.frame m ρ, fun m ρ _ => Cert.ReferenceIdeal.Gen.frame m ρ, preserves, algebraic⟩

end Cert.Proof

end
